-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_floor_positive [hPre_floor_positive : Cert.Pre_floor_positive.Facts] (m : (ℓ : Loc Cert.KernelIdeal.nD Cert.KernelIdeal.τ Cert.KernelIdeal.sig) → Buf (Elt Ideal) ℓ) : Prop :=
  ∀ c : Dev Cert.KernelIdeal.nD,
    (Cert.Pre_floor_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_floor_positive [hPre_floor_positive : Cert.Pre_floor_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_floor_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_floor_positive [hKernelIdeal : Cert.KernelIdeal.Facts] [hPre_floor_positive : Cert.Pre_floor_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_floor_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_floor_positive [hReferenceIdeal : Cert.ReferenceIdeal.Facts] [hPre_floor_positive : Cert.Pre_floor_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_floor_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_floor_positive [hKernelIdeal : Cert.KernelIdeal.Facts] [hReferenceIdeal : Cert.ReferenceIdeal.Facts] [hPre_floor_positive : Cert.Pre_floor_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_floor_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v39_12) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_v38) = v4 c
          ∧ r.2.mem ((c.tc : Thread Cert.Reference4Ideal.nD Cert.Reference4Ideal.τ).loc Cert.Reference4Ideal.main_v39) = v5 c
          ∧ r.2.mem ((c.tc : Thread Cert.Reference4Ideal.nD Cert.Reference4Ideal.τ).loc Cert.Reference4Ideal.main_v40) = v6 c
          ∧ r.2.mem ((c.tc : Thread Cert.Reference4Ideal.nD Cert.Reference4Ideal.τ).loc Cert.Reference4Ideal.main_v19) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_floor_positive : Cert.Pre_floor_positive.Facts),
    quiescent_Kernel (hKernel := hKernel)
    ∧ quiescent_KernelIdeal (hKernelIdeal := hKernelIdeal)
    ∧ quiescent_KernelIdeal_pre_floor_positive (hKernelIdeal := hKernelIdeal) (hPre_floor_positive := hPre_floor_positive)
    ∧ quiescent_ReferenceIdeal (hReferenceIdeal := hReferenceIdeal)
    ∧ quiescent_ReferenceIdeal_pre_floor_positive (hReferenceIdeal := hReferenceIdeal) (hPre_floor_positive := hPre_floor_positive)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_floor_positive (hKernelIdeal := hKernelIdeal) (hReferenceIdeal := hReferenceIdeal) (hPre_floor_positive := hPre_floor_positive)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_floor_positive.lean ====
abbrev S16384x1024 : Shape := ⟨2, ![16384, 1024]⟩
abbrev S8x8x2048 : Shape := ⟨3, ![8, 8, 2048]⟩
abbrev S8x2048x128 : Shape := ⟨3, ![8, 2048, 128]⟩
abbrev S8x2048x4 : Shape := ⟨3, ![8, 2048, 4]⟩
abbrev S_ : Shape := ⟨0, ![]⟩

class Facts : Prop where
  slices_S8x2048x128_S8x2048x4_0_0_8 : S8x2048x128.Slices ![0, 0, 8] S8x2048x4
  bcast_S_S8x2048x4 : S_.BroadcastsInDim S8x2048x4 (![] : Fin 0 → Fin S8x2048x4.rank)
  reducesTo_S8x2048x4_S_d0_1_2 : S8x2048x4.ReducesTo [0, 1, 2] S_
  h_S_ : 0 < S_.numel

variable [Facts]

def fn {F : FTy → Type} [FloatOps F] (main_arg0 : FVec F S16384x1024 .bf16) (main_arg1 : FVec F S16384x1024 .bf16) (main_arg2 : FVec F S16384x1024 .bf16) (main_arg3 : FVec F S16384x1024 .f32) (main_arg4 : FVec F S8x8x2048 .f32) (main_arg5 : FVec F S8x2048x128 .f32) : IVec S_ 1 :=
  let main_v0 : FVec F S8x2048x4 .f32 := (extractStridedSlice S8x2048x4 ![0, 0, 8] · slices_S8x2048x128_S8x2048x4_0_0_8) main_arg5
  let main_cst : FVec F S_ .f32 := constant S_ .f32 0x00000000#32
  let main_v1 : FVec F S8x2048x4 .f32 := broadcastInDim S8x2048x4 ![] bcast_S_S8x2048x4 main_cst
  let main_v2 : IVec S8x2048x4 1 := cmpf .ogt main_v0 main_v1
  let main_c : IVec S_ 1 := constantI S_ 1 1#1
  let main_v3 : IVec S_ 1 := (fun x v => Host.reduce IntOp.andi x v reducesTo_S8x2048x4_S_d0_1_2 h_S_) main_v2 main_c
  main_v3
-- ==== Kernel.lean ====
abbrev S16384x1024 : Shape := ⟨2, ![16384, 1024]⟩
abbrev S8x8x2048 : Shape := ⟨3, ![8, 8, 2048]⟩
abbrev S8x2048x128 : Shape := ⟨3, ![8, 2048, 128]⟩
abbrev S8x2048x1024 : Shape := ⟨3, ![8, 2048, 1024]⟩
abbrev S8x4x256x256 : Shape := ⟨4, ![8, 4, 256, 256]⟩
abbrev S8x4x1x256 : Shape := ⟨4, ![8, 4, 1, 256]⟩
abbrev S4x256x1024 : Shape := ⟨3, ![4, 256, 1024]⟩
abbrev S4x8x256 : Shape := ⟨3, ![4, 8, 256]⟩
abbrev S4x256x128 : Shape := ⟨3, ![4, 256, 128]⟩
abbrev S4x4x256x256 : Shape := ⟨4, ![4, 4, 256, 256]⟩
abbrev S4x4x1x256 : Shape := ⟨4, ![4, 4, 1, 256]⟩
abbrev S256x256 : Shape := ⟨2, ![256, 256]⟩
abbrev S1x256x256 : Shape := ⟨3, ![1, 256, 256]⟩
abbrev S1x1x256 : Shape := ⟨3, ![1, 1, 256]⟩
abbrev S1x256 : Shape := ⟨2, ![1, 256]⟩
abbrev S1x256x1 : Shape := ⟨3, ![1, 256, 1]⟩
abbrev S256x1 : Shape := ⟨2, ![256, 1]⟩
abbrev S1x1x1 : Shape := ⟨3, ![1, 1, 1]⟩
abbrev S1x1 : Shape := ⟨2, ![1, 1]⟩
abbrev S1x1x256x256 : Shape := ⟨4, ![1, 1, 256, 256]⟩
abbrev S1x1x1x256 : Shape := ⟨4, ![1, 1, 1, 256]⟩
abbrev S256 : Shape := ⟨1, ![256]⟩

abbrev nBuf : Space → Nat
  | .hbm => 13
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S8x8x2048, .f32⟩
  | .hbm, ⟨5, _⟩ => ⟨S8x2048x128, .f32⟩
  | .hbm, ⟨6, _⟩ => ⟨S8x2048x1024, .bf16⟩
  | .hbm, ⟨7, _⟩ => ⟨S8x2048x1024, .bf16⟩
  | .hbm, ⟨8, _⟩ => ⟨S8x2048x1024, .bf16⟩
  | .hbm, ⟨9, _⟩ => ⟨S8x2048x1024, .f32⟩
  | .hbm, ⟨10, _⟩ => ⟨S8x2048x1024, .bf16⟩
  | .hbm, ⟨11, _⟩ => ⟨S8x4x256x256, .f32⟩
  | .hbm, ⟨12, _⟩ => ⟨S8x4x1x256, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .f32⟩
  | .local _ .vmem, ⟨7, _⟩ => ⟨S4x256x1024, .f32⟩
  | .local _ .vmem, ⟨8, _⟩ => ⟨S4x8x256, .f32⟩
  | .local _ .vmem, ⟨9, _⟩ => ⟨S4x8x256, .f32⟩
  | .local _ .vmem, ⟨10, _⟩ => ⟨S4x256x128, .f32⟩
  | .local _ .vmem, ⟨11, _⟩ => ⟨S4x256x128, .f32⟩
  | .local _ .vmem, ⟨12, _⟩ => ⟨S4x256x1024, .bf16⟩
  | .local _ .vmem, ⟨13, _⟩ => ⟨S4x256x1024, .bf16⟩
  | .local _ .vmem, ⟨14, _⟩ => ⟨S4x4x256x256, .f32⟩
  | .local _ .vmem, ⟨15, _⟩ => ⟨S4x4x256x256, .f32⟩
  | .local _ .vmem, ⟨16, _⟩ => ⟨S4x4x1x256, .f32⟩
  | .local _ .vmem, ⟨17, _⟩ => ⟨S4x4x1x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S8x8x2048 : Shape := ⟨3, ![8, 8, 2048]⟩
abbrev S8x2048x128 : Shape := ⟨3, ![8, 2048, 128]⟩
abbrev S8x4x2048 : Shape := ⟨3, ![8, 4, 2048]⟩
abbrev S8x2048x4 : Shape := ⟨3, ![8, 2048, 4]⟩
abbrev S8x8x256x4 : Shape := ⟨4, ![8, 8, 256, 4]⟩
abbrev S_ : Shape := ⟨0, ![]⟩
abbrev S256x256 : Shape := ⟨2, ![256, 256]⟩
abbrev S8x4x256x256 : Shape := ⟨4, ![8, 4, 256, 256]⟩
abbrev S8x4x256 : Shape := ⟨3, ![8, 4, 256]⟩
abbrev S8x2048x4x256 : Shape := ⟨4, ![8, 2048, 4, 256]⟩
abbrev S8x8x256x4x256 : Shape := ⟨5, ![8, 8, 256, 4, 256]⟩
abbrev S1x8x256x4x256 : Shape := ⟨5, ![1, 8, 256, 4, 256]⟩
abbrev S8x256x4x256 : Shape := ⟨4, ![8, 256, 4, 256]⟩
abbrev S1x8x256x4 : Shape := ⟨4, ![1, 8, 256, 4]⟩
abbrev S8x256x4 : Shape := ⟨3, ![8, 256, 4]⟩
abbrev S8x4x1x256 : Shape := ⟨4, ![8, 4, 1, 256]⟩
abbrev S8x4x256x1 : Shape := ⟨4, ![8, 4, 256, 1]⟩
abbrev S8x1x4 : Shape := ⟨3, ![8, 1, 4]⟩
abbrev S8x4 : Shape := ⟨2, ![8, 4]⟩
abbrev S8x4x1x1 : Shape := ⟨4, ![8, 4, 1, 1]⟩
abbrev S8x4x1 : Shape := ⟨3, ![8, 4, 1]⟩
abbrev S8x2048x1024 : Shape := ⟨3, ![8, 2048, 1024]⟩

abbrev nBuf : Space → Nat
  | .hbm => 193
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x1024, .bf16⟩
  | 3 => ⟨S16384x1024, .f32⟩
  | 4 => ⟨S8x8x2048, .f32⟩
  | 5 => ⟨S8x2048x128, .f32⟩
  | 6 => ⟨S8x4x2048, .f32⟩
  | 7 => ⟨S8x2048x4, .f32⟩
  | 8 => ⟨S8x8x256x4, .f32⟩
  | 9 => ⟨S8x8x256x4, .f32⟩
  | 10 => ⟨S8x2048x4, .f32⟩
  | 11 => ⟨S8x8x256x4, .f32⟩
  | 12 => ⟨S8x8x256x4, .f32⟩
  | 13 => ⟨S8x2048x4, .f32⟩
  | 14 => ⟨S8x8x256x4, .f32⟩
  | 15 => ⟨S8x8x256x4, .f32⟩
  | 16 => ⟨S8x2048x4, .f32⟩
  | 17 => ⟨S8x8x256x4, .f32⟩
  | 18 => ⟨S8x8x256x4, .f32⟩
  | 19 => ⟨S8x2048x4, .f32⟩
  | 20 => ⟨S8x8x256x4, .f32⟩
  | 21 => ⟨S8x8x256x4, .f32⟩
  | 22 => ⟨S8x2048x4, .f32⟩
  | 23 => ⟨S8x8x256x4, .f32⟩
  | 24 => ⟨S8x8x256x4, .f32⟩
  | 25 => ⟨S_, .i1⟩
  | 26 => ⟨S256x256, .i1⟩
  | 27 => ⟨S256x256, .i32⟩
  | 28 => ⟨S_, .i32⟩
  | 29 => ⟨S256x256, .i32⟩
  | 30 => ⟨S256x256, .i32⟩
  | 31 => ⟨S256x256, .i32⟩
  | 32 => ⟨S256x256, .i1⟩
  | 33 => ⟨S_, .i1⟩
  | 34 => ⟨S256x256, .i1⟩
  | 35 => ⟨S256x256, .i1⟩
  | 36 => ⟨S_, .f32⟩
  | 37 => ⟨S8x4x256x256, .f32⟩
  | 38 => ⟨S_, .f32⟩
  | 39 => ⟨S8x4x256, .f32⟩
  | 40 => ⟨S16384x1024, .f32⟩
  | 41 => ⟨S8x2048x4x256, .f32⟩
  | 42 => ⟨S8x8x256x4x256, .f32⟩
  | 43 => ⟨S8x8x256x4x256, .f32⟩
  | 44 => ⟨S16384x1024, .f32⟩
  | 45 => ⟨S8x2048x4x256, .f32⟩
  | 46 => ⟨S8x8x256x4x256, .f32⟩
  | 47 => ⟨S8x8x256x4x256, .f32⟩
  | 48 => ⟨S16384x1024, .f32⟩
  | 49 => ⟨S8x2048x4x256, .f32⟩
  | 50 => ⟨S8x8x256x4x256, .f32⟩
  | 51 => ⟨S8x8x256x4x256, .f32⟩
  | 52 => ⟨S8x2048x4x256, .f32⟩
  | 53 => ⟨S8x8x256x4x256, .f32⟩
  | 54 => ⟨S8x8x256x4x256, .f32⟩
  | 55 => ⟨S_, .f32⟩
  | 56 => ⟨S8x8x256x4x256, .f32⟩
  | 57 => ⟨S_, .i32⟩
  | 58 => ⟨S8x8x256x4x256, .f32⟩
  | 59 => ⟨S8x8x256x4x256, .f32⟩
  | 60 => ⟨S8x8x256x4x256, .f32⟩
  | 61 => ⟨S8x8x256x4x256, .f32⟩
  | 62 => ⟨S8x8x256x4, .f32⟩
  | 63 => ⟨S8x8x256x4, .f32⟩
  | 64 => ⟨S8x8x256x4, .f32⟩
  | 65 => ⟨S8x8x256x4, .f32⟩
  | 66 => ⟨S8x8x256x4, .f32⟩
  | 67 => ⟨S8x8x256x4, .f32⟩
  | 68 => ⟨S256x256, .i1⟩
  | 69 => ⟨S_, .i32⟩
  | 70 => ⟨S8x4x256x256, .f32⟩
  | 71 => ⟨S8x4x256, .f32⟩
  | 72 => ⟨S8x8x256x4x256, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S1x8x256x4x256, .f32⟩
  | 80 => ⟨S8x256x4x256, .f32⟩
  | 81 => ⟨S_, .i32⟩
  | 82 => ⟨S_, .i32⟩
  | 83 => ⟨S_, .i32⟩
  | 84 => ⟨S_, .i32⟩
  | 85 => ⟨S1x8x256x4x256, .f32⟩
  | 86 => ⟨S8x256x4x256, .f32⟩
  | 87 => ⟨S_, .i32⟩
  | 88 => ⟨S_, .i32⟩
  | 89 => ⟨S_, .i32⟩
  | 90 => ⟨S_, .i32⟩
  | 91 => ⟨S1x8x256x4x256, .f32⟩
  | 92 => ⟨S8x256x4x256, .f32⟩
  | 93 => ⟨S_, .i32⟩
  | 94 => ⟨S_, .i32⟩
  | 95 => ⟨S_, .i32⟩
  | 96 => ⟨S_, .i32⟩
  | 97 => ⟨S1x8x256x4x256, .f32⟩
  | 98 => ⟨S8x256x4x256, .f32⟩
  | 99 => ⟨S_, .i32⟩
  | 100 => ⟨S_, .i32⟩
  | 101 => ⟨S_, .i32⟩
  | 102 => ⟨S1x8x256x4, .f32⟩
  | 103 => ⟨S8x256x4, .f32⟩
  | 104 => ⟨S_, .i32⟩
  | 105 => ⟨S_, .i32⟩
  | 106 => ⟨S_, .i32⟩
  | 107 => ⟨S1x8x256x4, .f32⟩
  | 108 => ⟨S8x256x4, .f32⟩
  | 109 => ⟨S_, .i32⟩
  | 110 => ⟨S_, .i32⟩
  | 111 => ⟨S_, .i32⟩
  | 112 => ⟨S1x8x256x4, .f32⟩
  | 113 => ⟨S8x256x4, .f32⟩
  | 114 => ⟨S_, .i32⟩
  | 115 => ⟨S_, .i32⟩
  | 116 => ⟨S_, .i32⟩
  | 117 => ⟨S1x8x256x4, .f32⟩
  | 118 => ⟨S8x256x4, .f32⟩
  | 119 => ⟨S_, .i32⟩
  | 120 => ⟨S_, .i32⟩
  | 121 => ⟨S_, .i32⟩
  | 122 => ⟨S1x8x256x4, .f32⟩
  | 123 => ⟨S8x256x4, .f32⟩
  | 124 => ⟨S_, .i32⟩
  | 125 => ⟨S_, .i32⟩
  | 126 => ⟨S_, .i32⟩
  | 127 => ⟨S1x8x256x4, .f32⟩
  | _ => ⟨S16384x1024, .bf16⟩

abbrev hbmTy0_1 (i : Nat) : BufTy := match i % 128 with
  | 0 => ⟨S8x256x4, .f32⟩
  | 1 => ⟨S8x4x256, .f32⟩
  | 2 => ⟨S8x4x256, .f32⟩
  | 3 => ⟨S8x4x256, .f32⟩
  | 4 => ⟨S8x4x256, .f32⟩
  | 5 => ⟨S8x4x256, .f32⟩
  | 6 => ⟨S8x4x1x256, .f32⟩
  | 7 => ⟨S8x4x256x1, .f32⟩
  | 8 => ⟨S8x4x256x256, .f32⟩
  | 9 => ⟨S8x4x256x256, .f32⟩
  | 10 => ⟨S8x4x256x256, .f32⟩
  | 11 => ⟨S_, .f32⟩
  | 12 => ⟨S_, .f32⟩
  | 13 => ⟨S8x4x256x256, .i1⟩
  | 14 => ⟨S8x4x256x256, .f32⟩
  | 15 => ⟨S8x4x256x256, .f32⟩
  | 16 => ⟨S8x4x256x256, .f32⟩
  | 17 => ⟨S8x4x256x256, .f32⟩
  | 18 => ⟨S8x4x256x256, .f32⟩
  | 19 => ⟨S8x4x256x256, .f32⟩
  | 20 => ⟨S8x4x256x1, .f32⟩
  | 21 => ⟨S8x4x256x256, .f32⟩
  | 22 => ⟨S8x4x256x256, .f32⟩
  | 23 => ⟨S8x4x256x256, .f32⟩
  | 24 => ⟨S8x4x256x256, .f32⟩
  | 25 => ⟨S_, .f32⟩
  | 26 => ⟨S8x4x256, .f32⟩
  | 27 => ⟨S8x4x256, .f32⟩
  | 28 => ⟨S8x4x256, .f32⟩
  | 29 => ⟨S8x4x256, .f32⟩
  | 30 => ⟨S8x4x256, .f32⟩
  | 31 => ⟨S8x4x256, .f32⟩
  | 32 => ⟨S8x4x256x1, .f32⟩
  | 33 => ⟨S8x4x256x256, .f32⟩
  | 34 => ⟨S8x4x256x256, .f32⟩
  | 35 => ⟨S8x1x4, .f32⟩
  | 36 => ⟨S8x4, .f32⟩
  | 37 => ⟨S8x4x1x1, .f32⟩
  | 38 => ⟨S8x4x256x256, .f32⟩
  | 39 => ⟨S8x4x256x256, .f32⟩
  | 40 => ⟨S8x4x256x1, .f32⟩
  | 41 => ⟨S8x4x256x256, .f32⟩
  | 42 => ⟨S8x4x256x256, .f32⟩
  | 43 => ⟨S8x4x256x256, .f32⟩
  | 44 => ⟨S8x4x256x256, .f32⟩
  | 45 => ⟨S8x4x256x256, .f32⟩
  | 46 => ⟨S8x4x1, .f32⟩
  | 47 => ⟨S8x4x256, .f32⟩
  | 48 => ⟨S8x4x256, .f32⟩
  | 49 => ⟨S8x4x256, .f32⟩
  | 50 => ⟨S8x4x256, .f32⟩
  | 51 => ⟨S8x256x4x256, .f32⟩
  | 52 => ⟨S8x256x4x256, .f32⟩
  | 53 => ⟨S1x8x256x4x256, .f32⟩
  | 54 => ⟨S_, .i32⟩
  | 55 => ⟨S_, .i32⟩
  | 56 => ⟨S_, .i32⟩
  | 57 => ⟨S_, .i32⟩
  | 58 => ⟨S8x8x256x4x256, .f32⟩
  | 59 => ⟨S_, .i32⟩
  | 60 => ⟨S_, .i32⟩
  | 61 => ⟨S8x8x256x4x256, .f32⟩
  | 62 => ⟨S8x2048x1024, .f32⟩
  | 63 => ⟨S8x2048x1024, .bf16⟩
  | 64 => ⟨S8x4x1x256, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_c_2 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_v39_3 : Ref sig .tc := ⟨.hbm, 61, rfl⟩
abbrev main_v39_4 : Ref sig .tc := ⟨.hbm, 62, rfl⟩
abbrev main_v39_5 : Ref sig .tc := ⟨.hbm, 63, rfl⟩
abbrev main_v39_6 : Ref sig .tc := ⟨.hbm, 64, rfl⟩
abbrev main_v39_7 : Ref sig .tc := ⟨.hbm, 65, rfl⟩
abbrev main_v39_8 : Ref sig .tc := ⟨.hbm, 66, rfl⟩
abbrev main_v39_9 : Ref sig .tc := ⟨.hbm, 67, rfl⟩
abbrev main_v39_10 : Ref sig .tc := ⟨.hbm, 68, rfl⟩
abbrev main_v39_11 : Ref sig .tc := ⟨.hbm, 69, rfl⟩
abbrev main_v39_12 : Ref sig .tc := ⟨.hbm, 70, rfl⟩
abbrev main_v39_13 : Ref sig .tc := ⟨.hbm, 71, rfl⟩
abbrev main_v39_14 : Ref sig .tc := ⟨.hbm, 72, rfl⟩
abbrev main_while0c_c_17 : Ref sig .tc := ⟨.hbm, 73, rfl⟩
abbrev main_while0c_v44 : Ref sig .tc := ⟨.hbm, 74, rfl⟩
abbrev main_while0b_call1_c : Ref sig .tc := ⟨.hbm, 75, rfl⟩
abbrev main_while0b_call1_c_0 : Ref sig .tc := ⟨.hbm, 76, rfl⟩
abbrev main_while0b_call1_c_1 : Ref sig .tc := ⟨.hbm, 77, rfl⟩
abbrev main_while0b_call1_c_2 : Ref sig .tc := ⟨.hbm, 78, rfl⟩
abbrev main_while0b_call1_v0 : Ref sig .tc := ⟨.hbm, 79, rfl⟩
abbrev main_while0b_v44 : Ref sig .tc := ⟨.hbm, 80, rfl⟩
abbrev main_while0b_call2_c : Ref sig .tc := ⟨.hbm, 81, rfl⟩
abbrev main_while0b_call2_c_0 : Ref sig .tc := ⟨.hbm, 82, rfl⟩
abbrev main_while0b_call2_c_1 : Ref sig .tc := ⟨.hbm, 83, rfl⟩
abbrev main_while0b_call2_c_2 : Ref sig .tc := ⟨.hbm, 84, rfl⟩
abbrev main_while0b_call2_v0 : Ref sig .tc := ⟨.hbm, 85, rfl⟩
abbrev main_while0b_v45 : Ref sig .tc := ⟨.hbm, 86, rfl⟩
abbrev main_while0b_call3_c : Ref sig .tc := ⟨.hbm, 87, rfl⟩
abbrev main_while0b_call3_c_0 : Ref sig .tc := ⟨.hbm, 88, rfl⟩
abbrev main_while0b_call3_c_1 : Ref sig .tc := ⟨.hbm, 89, rfl⟩
abbrev main_while0b_call3_c_2 : Ref sig .tc := ⟨.hbm, 90, rfl⟩
abbrev main_while0b_call3_v0 : Ref sig .tc := ⟨.hbm, 91, rfl⟩
abbrev main_while0b_v46 : Ref sig .tc := ⟨.hbm, 92, rfl⟩
abbrev main_while0b_call4_c : Ref sig .tc := ⟨.hbm, 93, rfl⟩
abbrev main_while0b_call4_c_0 : Ref sig .tc := ⟨.hbm, 94, rfl⟩
abbrev main_while0b_call4_c_1 : Ref sig .tc := ⟨.hbm, 95, rfl⟩
abbrev main_while0b_call4_c_2 : Ref sig .tc := ⟨.hbm, 96, rfl⟩
abbrev main_while0b_call4_v0 : Ref sig .tc := ⟨.hbm, 97, rfl⟩
abbrev main_while0b_v47 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_call5_c_1 : Ref sig .tc := ⟨.hbm, 101, rfl⟩
abbrev main_while0b_call5_v0 : Ref sig .tc := ⟨.hbm, 102, rfl⟩
abbrev main_while0b_v48 : Ref sig .tc := ⟨.hbm, 103, rfl⟩
abbrev main_while0b_call6_c : Ref sig .tc := ⟨.hbm, 104, rfl⟩
abbrev main_while0b_call6_c_0 : Ref sig .tc := ⟨.hbm, 105, rfl⟩
abbrev main_while0b_call6_c_1 : Ref sig .tc := ⟨.hbm, 106, rfl⟩
abbrev main_while0b_call6_v0 : Ref sig .tc := ⟨.hbm, 107, rfl⟩
abbrev main_while0b_v49 : Ref sig .tc := ⟨.hbm, 108, rfl⟩
abbrev main_while0b_call7_c : Ref sig .tc := ⟨.hbm, 109, rfl⟩
abbrev main_while0b_call7_c_0 : Ref sig .tc := ⟨.hbm, 110, rfl⟩
abbrev main_while0b_call7_c_1 : Ref sig .tc := ⟨.hbm, 111, rfl⟩
abbrev main_while0b_call7_v0 : Ref sig .tc := ⟨.hbm, 112, rfl⟩
abbrev main_while0b_v50 : Ref sig .tc := ⟨.hbm, 113, rfl⟩
abbrev main_while0b_call8_c : Ref sig .tc := ⟨.hbm, 114, rfl⟩
abbrev main_while0b_call8_c_0 : Ref sig .tc := ⟨.hbm, 115, rfl⟩
abbrev main_while0b_call8_c_1 : Ref sig .tc := ⟨.hbm, 116, rfl⟩
abbrev main_while0b_call8_v0 : Ref sig .tc := ⟨.hbm, 117, rfl⟩
abbrev main_while0b_v51 : Ref sig .tc := ⟨.hbm, 118, rfl⟩
abbrev main_while0b_call9_c : Ref sig .tc := ⟨.hbm, 119, rfl⟩
abbrev main_while0b_call9_c_0 : Ref sig .tc := ⟨.hbm, 120, rfl⟩
abbrev main_while0b_call9_c_1 : Ref sig .tc := ⟨.hbm, 121, rfl⟩
abbrev main_while0b_call9_v0 : Ref sig .tc := ⟨.hbm, 122, rfl⟩
abbrev main_while0b_v52 : Ref sig .tc := ⟨.hbm, 123, rfl⟩
abbrev main_while0b_call10_c : Ref sig .tc := ⟨.hbm, 124, rfl⟩
abbrev main_while0b_call10_c_0 : Ref sig .tc := ⟨.hbm, 125, rfl⟩
abbrev main_while0b_call10_c_1 : Ref sig .tc := ⟨.hbm, 126, rfl⟩
abbrev main_while0b_call10_v0 : Ref sig .tc := ⟨.hbm, 127, rfl⟩
abbrev main_while0b_v53 : Ref sig .tc := ⟨.hbm, 128, rfl⟩
abbrev main_while0b_v54 : Ref sig .tc := ⟨.hbm, 129, rfl⟩
abbrev main_while0b_v55 : Ref sig .tc := ⟨.hbm, 130, rfl⟩
abbrev main_while0b_v56 : Ref sig .tc := ⟨.hbm, 131, rfl⟩
abbrev main_while0b_v57 : Ref sig .tc := ⟨.hbm, 132, rfl⟩
abbrev main_while0b_v58 : Ref sig .tc := ⟨.hbm, 133, rfl⟩
abbrev main_while0b_v59 : Ref sig .tc := ⟨.hbm, 134, rfl⟩
abbrev main_while0b_v60 : Ref sig .tc := ⟨.hbm, 135, rfl⟩
abbrev main_while0b_v61 : Ref sig .tc := ⟨.hbm, 136, rfl⟩
abbrev main_while0b_v62 : Ref sig .tc := ⟨.hbm, 137, rfl⟩
abbrev main_while0b_v63 : Ref sig .tc := ⟨.hbm, 138, rfl⟩
abbrev main_while0b_cst_17 : Ref sig .tc := ⟨.hbm, 139, rfl⟩
abbrev main_while0b_call11_v0 : Ref sig .tc := ⟨.hbm, 140, rfl⟩
abbrev main_while0b_call11_v1 : Ref sig .tc := ⟨.hbm, 141, rfl⟩
abbrev main_while0b_call11_v2 : Ref sig .tc := ⟨.hbm, 142, rfl⟩
abbrev main_while0b_v64 : Ref sig .tc := ⟨.hbm, 143, rfl⟩
abbrev main_while0b_v65 : Ref sig .tc := ⟨.hbm, 144, rfl⟩
abbrev main_while0b_v66 : Ref sig .tc := ⟨.hbm, 145, rfl⟩
abbrev main_while0b_v67 : Ref sig .tc := ⟨.hbm, 146, rfl⟩
abbrev main_while0b_v68 : Ref sig .tc := ⟨.hbm, 147, rfl⟩
abbrev main_while0b_v69 : Ref sig .tc := ⟨.hbm, 148, rfl⟩
abbrev main_while0b_v70 : Ref sig .tc := ⟨.hbm, 149, rfl⟩
abbrev main_while0b_v71 : Ref sig .tc := ⟨.hbm, 150, rfl⟩
abbrev main_while0b_v72 : Ref sig .tc := ⟨.hbm, 151, rfl⟩
abbrev main_while0b_v73 : Ref sig .tc := ⟨.hbm, 152, rfl⟩
abbrev main_while0b_cst_18 : Ref sig .tc := ⟨.hbm, 153, rfl⟩
abbrev main_while0b_v74 : Ref sig .tc := ⟨.hbm, 154, rfl⟩
abbrev main_while0b_v75 : Ref sig .tc := ⟨.hbm, 155, rfl⟩
abbrev main_while0b_v76 : Ref sig .tc := ⟨.hbm, 156, rfl⟩
abbrev main_while0b_v77 : Ref sig .tc := ⟨.hbm, 157, rfl⟩
abbrev main_while0b_v78 : Ref sig .tc := ⟨.hbm, 158, rfl⟩
abbrev main_while0b_v79 : Ref sig .tc := ⟨.hbm, 159, rfl⟩
abbrev main_while0b_v80 : Ref sig .tc := ⟨.hbm, 160, rfl⟩
abbrev main_while0b_v81 : Ref sig .tc := ⟨.hbm, 161, rfl⟩
abbrev main_while0b_v82 : Ref sig .tc := ⟨.hbm, 162, rfl⟩
abbrev main_while0b_v83 : Ref sig .tc := ⟨.hbm, 163, rfl⟩
abbrev main_while0b_v84 : Ref sig .tc := ⟨.hbm, 164, rfl⟩
abbrev main_while0b_v85 : Ref sig .tc := ⟨.hbm, 165, rfl⟩
abbrev main_while0b_v86 : Ref sig .tc := ⟨.hbm, 166, rfl⟩
abbrev main_while0b_v87 : Ref sig .tc := ⟨.hbm, 167, rfl⟩
abbrev main_while0b_v88 : Ref sig .tc := ⟨.hbm, 168, rfl⟩
abbrev main_while0b_v89 : Ref sig .tc := ⟨.hbm, 169, rfl⟩
abbrev main_while0b_v90 : Ref sig .tc := ⟨.hbm, 170, rfl⟩
abbrev main_while0b_v91 : Ref sig .tc := ⟨.hbm, 171, rfl⟩
abbrev main_while0b_v92 : Ref sig .tc := ⟨.hbm, 172, rfl⟩
abbrev main_while0b_v93 : Ref sig .tc := ⟨.hbm, 173, rfl⟩
abbrev main_while0b_v94 : Ref sig .tc := ⟨.hbm, 174, rfl⟩
abbrev main_while0b_v95 : Ref sig .tc := ⟨.hbm, 175, rfl⟩
abbrev main_while0b_v96 : Ref sig .tc := ⟨.hbm, 176, rfl⟩
abbrev main_while0b_v97 : Ref sig .tc := ⟨.hbm, 177, rfl⟩
abbrev main_while0b_v98 : Ref sig .tc := ⟨.hbm, 178, rfl⟩
abbrev main_while0b_v99 : Ref sig .tc := ⟨.hbm, 179, rfl⟩
abbrev main_while0b_v100 : Ref sig .tc := ⟨.hbm, 180, rfl⟩
abbrev main_while0b_call12_v0 : Ref sig .tc := ⟨.hbm, 181, rfl⟩
abbrev main_while0b_call12_c : Ref sig .tc := ⟨.hbm, 182, rfl⟩
abbrev main_while0b_call12_c_0 : Ref sig .tc := ⟨.hbm, 183, rfl⟩
abbrev main_while0b_call12_c_1 : Ref sig .tc := ⟨.hbm, 184, rfl⟩
abbrev main_while0b_call12_c_2 : Ref sig .tc := ⟨.hbm, 185, rfl⟩
abbrev main_while0b_v101 : Ref sig .tc := ⟨.hbm, 186, rfl⟩
abbrev main_while0b_c_19 : Ref sig .tc := ⟨.hbm, 187, rfl⟩
abbrev main_while0b_v102 : Ref sig .tc := ⟨.hbm, 188, rfl⟩
abbrev main_v40 : Ref sig .tc := ⟨.hbm, 189, rfl⟩
abbrev main_v41 : Ref sig .tc := ⟨.hbm, 190, rfl⟩
abbrev main_v42 : Ref sig .tc := ⟨.hbm, 191, rfl⟩
abbrev main_v43 : Ref sig .tc := ⟨.hbm, 192, rfl⟩

abbrev nD : Nat := 1
abbrev τ : Topo := Topo.v7x

variable {F : FTy → Type} [FloatOps F]

abbrev main_while0_count : Scf.Loop 32 := ⟨0#32, 8#32, 1#32⟩
-- ==== Kernel2.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S128x512 : Shape := ⟨2, ![128, 512]⟩
abbrev S128x256x4x128 : Shape := ⟨4, ![128, 256, 4, 128]⟩
abbrev S128x4x128 : Shape := ⟨3, ![128, 4, 128]⟩
abbrev S128x8x128 : Shape := ⟨3, ![128, 8, 128]⟩
abbrev S128x128x8x128 : Shape := ⟨4, ![128, 128, 8, 128]⟩
abbrev S512x1024 : Shape := ⟨2, ![512, 1024]⟩
abbrev S4x8x128 : Shape := ⟨3, ![4, 8, 128]⟩
abbrev S4x128x8x128 : Shape := ⟨4, ![4, 128, 8, 128]⟩
abbrev S4x4x128 : Shape := ⟨3, ![4, 4, 128]⟩
abbrev S4x1x8x128 : Shape := ⟨4, ![4, 1, 8, 128]⟩
abbrev S4x128x8 : Shape := ⟨3, ![4, 128, 8]⟩
abbrev S4x128x8x1 : Shape := ⟨4, ![4, 128, 8, 1]⟩
abbrev S4x8x1 : Shape := ⟨3, ![4, 8, 1]⟩
abbrev S4x1x8x1 : Shape := ⟨4, ![4, 1, 8, 1]⟩
abbrev S4x1x4x128 : Shape := ⟨4, ![4, 1, 4, 128]⟩
abbrev S512 : Shape := ⟨1, ![512]⟩
abbrev S512x1 : Shape := ⟨2, ![512, 1]⟩
abbrev S512x4096 : Shape := ⟨2, ![512, 4096]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S128x512, .f32⟩
  | .hbm, ⟨6, _⟩ => ⟨S128x256x4x128, .f32⟩
  | .hbm, ⟨7, _⟩ => ⟨S128x256x4x128, .f32⟩
  | .hbm, ⟨8, _⟩ => ⟨S128x4x128, .f32⟩
  | .hbm, ⟨9, _⟩ => ⟨S128x8x128, .f32⟩
  | .hbm, ⟨10, _⟩ => ⟨S128x128x8x128, .f32⟩
  | .hbm, ⟨11, _⟩ => ⟨S128x128x8x128, .f32⟩
  | .hbm, ⟨12, _⟩ => ⟨S16384x1024, .f32⟩
  | .hbm, ⟨13, _⟩ => ⟨S128x4x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S4096x1024, .bf16⟩
  | .local _ .vmem, ⟨6, _⟩ => ⟨S4x8x128, .f32⟩
  | .local _ .vmem, ⟨7, _⟩ => ⟨S4x8x128, .f32⟩
  | .local _ .vmem, ⟨8, _⟩ => ⟨S4x128x8x128, .f32⟩
  | .local _ .vmem, ⟨9, _⟩ => ⟨S4x128x8x128, .f32⟩
  | .local _ .vmem, ⟨10, _⟩ => ⟨S4x128x8x128, .f32⟩
  | .local _ .vmem, ⟨11, _⟩ => ⟨S4x128x8x128, .f32⟩
  | .local _ .vmem, ⟨12, _⟩ => ⟨S512x1024, .f32⟩
  | .local _ .vmem, ⟨13, _⟩ => ⟨S512x1024, .f32⟩
  | .local _ .vmem, ⟨14, _⟩ => ⟨S4x4x128, .bf16⟩
  | .local _ .vmem, ⟨15, _⟩ => ⟨S4x4x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S128x512 : Shape := ⟨2, ![128, 512]⟩
abbrev S128x256x4x128 : Shape := ⟨4, ![128, 256, 4, 128]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S128x512, .f32⟩
  | .hbm, ⟨6, _⟩ => ⟨S128x256x4x128, .f32⟩
  | .hbm, ⟨7, _⟩ => ⟨S128x256x4x128, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S1024x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S4096x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel3.lean ====
abbrev S128x1024 : Shape := ⟨2, ![128, 1024]⟩
abbrev S128x512 : Shape := ⟨2, ![128, 512]⟩
abbrev S1x1024 : Shape := ⟨2, ![1, 1024]⟩
abbrev S3072x1024 : Shape := ⟨2, ![3072, 1024]⟩
abbrev S512x1024 : Shape := ⟨2, ![512, 1024]⟩
abbrev S1024x1024 : Shape := ⟨2, ![1024, 1024]⟩
abbrev S128 : Shape := ⟨1, ![128]⟩
abbrev S128x1 : Shape := ⟨2, ![128, 1]⟩
abbrev S256x1024 : Shape := ⟨2, ![256, 1024]⟩
abbrev S128x256 : Shape := ⟨2, ![128, 256]⟩
abbrev S512x256 : Shape := ⟨2, ![512, 256]⟩
abbrev S1024x256 : Shape := ⟨2, ![1024, 256]⟩

abbrev nBuf : Space → Nat
  | .hbm => 12
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x1024, .bf16⟩
  | .hbm, ⟨3, _⟩ => ⟨S128x512, .bf16⟩
  | .hbm, ⟨4, _⟩ => ⟨S1x1024, .f32⟩
  | .hbm, ⟨5, _⟩ => ⟨S1x1024, .f32⟩
  | .hbm, ⟨6, _⟩ => ⟨S3072x1024, .bf16⟩
  | .hbm, ⟨7, _⟩ => ⟨S512x1024, .bf16⟩
  | .hbm, ⟨8, _⟩ => ⟨S1024x1024, .bf16⟩
  | .hbm, ⟨9, _⟩ => ⟨S512x1024, .bf16⟩
  | .hbm, ⟨10, _⟩ => ⟨S1024x1024, .bf16⟩
  | .hbm, ⟨11, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x1024, .bf16⟩
  | .local _ .vmem, ⟨3, _⟩ => ⟨S128x512, .bf16⟩
  | .local _ .vmem, ⟨4, _⟩ => ⟨S1x1024, .f32⟩
  | .local _ .vmem, ⟨5, _⟩ => ⟨S1x1024, .f32⟩
  | .local _ .vmem, ⟨6, _⟩ => ⟨S3072x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .bf16⟩
  | .local _ .vmem, ⟨10, _⟩ => ⟨S1024x1024, .bf16⟩
  | .local _ .vmem, ⟨11, _⟩ => ⟨S128x1024, .f32⟩
  | .local _ .vmem, ⟨12, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference3Ideal.lean ====
abbrev S128x1024 : Shape := ⟨2, ![128, 1024]⟩
abbrev S128x512 : Shape := ⟨2, ![128, 512]⟩
abbrev S1x1024 : Shape := ⟨2, ![1, 1024]⟩
abbrev S3072x1024 : Shape := ⟨2, ![3072, 1024]⟩
abbrev S512x1024 : Shape := ⟨2, ![512, 1024]⟩
abbrev S1024x1024 : Shape := ⟨2, ![1024, 1024]⟩
abbrev S_ : Shape := ⟨0, ![]⟩
abbrev S128 : Shape := ⟨1, ![128]⟩
abbrev S128x1 : Shape := ⟨2, ![128, 1]⟩
abbrev S1024x3072 : Shape := ⟨2, ![1024, 3072]⟩
abbrev S128x3072 : Shape := ⟨2, ![128, 3072]⟩
abbrev S128x3x1024 : Shape := ⟨3, ![128, 3, 1024]⟩
abbrev S128x1x1024 : Shape := ⟨3, ![128, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x1024, .bf16⟩
  | .hbm, ⟨3, _⟩ => ⟨S128x512, .bf16⟩
  | .hbm, ⟨4, _⟩ => ⟨S1x1024, .f32⟩
  | .hbm, ⟨5, _⟩ => ⟨S1x1024, .f32⟩
  | .hbm, ⟨6, _⟩ => ⟨S3072x1024, .bf16⟩
  | .hbm, ⟨7, _⟩ => ⟨S512x1024, .bf16⟩
  | .hbm, ⟨8, _⟩ => ⟨S1024x1024, .bf16⟩
  | .hbm, ⟨9, _⟩ => ⟨S512x1024, .bf16⟩
  | .hbm, ⟨10, _⟩ => ⟨S1024x1024, .bf16⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S3072x1024, .f32⟩
  | .hbm, ⟨27, _⟩ => ⟨S1024x3072, .f32⟩
  | .hbm, ⟨28, _⟩ => ⟨S128x3072, .f32⟩
  | .hbm, ⟨29, _⟩ => ⟨S128x3x1024, .f32⟩
  | .hbm, ⟨30, _⟩ => ⟨S128x3x1024, .f32⟩
  | .hbm, ⟨31, _⟩ => ⟨S128x3x1024, .f32⟩
  | .hbm, ⟨32, _⟩ => ⟨S_, .f32⟩
  | .hbm, ⟨33, _⟩ => ⟨S128x3x1024, .f32⟩
  | .hbm, ⟨34, _⟩ => ⟨S128x3x1024, .f32⟩
  | .hbm, ⟨35, _⟩ => ⟨S_, .f32⟩
  | .hbm, ⟨36, _⟩ => ⟨S128x3x1024, .f32⟩
  | .hbm, ⟨37, _⟩ => ⟨S128x3x1024, .f32⟩
  | .hbm, ⟨38, _⟩ => ⟨S128x1x1024, .f32⟩
  | .hbm, ⟨39, _⟩ => ⟨S128x1024, .f32⟩
  | .hbm, ⟨40, _⟩ => ⟨S128x512, .f32⟩
  | .hbm, ⟨41, _⟩ => ⟨S512x1024, .f32⟩
  | .hbm, ⟨42, _⟩ => ⟨S128x1024, .f32⟩
  | .hbm, ⟨43, _⟩ => ⟨S128x1024, .f32⟩
  | .hbm, ⟨44, _⟩ => ⟨S128x1x1024, .f32⟩
  | .hbm, ⟨45, _⟩ => ⟨S128x1024, .f32⟩
  | .hbm, ⟨46, _⟩ => ⟨S128x1024, .f32⟩
  | .hbm, ⟨47, _⟩ => ⟨S1024x1024, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S128x1x1024, .f32⟩
  | .hbm, ⟨52, _⟩ => ⟨S128x1024, .f32⟩
  | .hbm, ⟨53, _⟩ => ⟨S128x512, .f32⟩
  | .hbm, ⟨54, _⟩ => ⟨S512x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S1024x1024, .f32⟩
  | .hbm, ⟨59, _⟩ => ⟨S128x1024, .f32⟩
  | .hbm, ⟨60, _⟩ => ⟨S128x1024, .f32⟩
  | .hbm, ⟨61, _⟩ => ⟨S_, .f32⟩
  | .hbm, ⟨62, _⟩ => ⟨S128, .f32⟩
  | .hbm, ⟨63, _⟩ => ⟨S128x1, .f32⟩
  | .hbm, ⟨64, _⟩ => ⟨S_, .f32⟩
  | .hbm, ⟨65, _⟩ => ⟨S128x1, .f32⟩
  | .hbm, ⟨66, _⟩ => ⟨S128x1, .f32⟩
  | .hbm, ⟨67, _⟩ => ⟨S_, .f32⟩
  | .hbm, ⟨68, _⟩ => ⟨S128x1, .f32⟩
  | .hbm, ⟨69, _⟩ => ⟨S128x1, .f32⟩
  | .hbm, ⟨70, _⟩ => ⟨S128x1, .f32⟩
  | .hbm, ⟨71, _⟩ => ⟨S128x1024, .f32⟩
  | .hbm, ⟨72, _⟩ => ⟨S128x1024, .f32⟩
  | .hbm, ⟨73, _⟩ => ⟨S128x1024, .f32⟩
  | .hbm, ⟨74, _⟩ => ⟨S128x1024, .f32⟩
  | .hbm, ⟨75, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S5128x1024 : Shape := ⟨2, ![5128, 1024]⟩
abbrev S512x1024 : Shape := ⟨2, ![512, 1024]⟩
abbrev S128x1024 : Shape := ⟨2, ![128, 1024]⟩
abbrev S8200x1024 : Shape := ⟨2, ![8200, 1024]⟩
abbrev S1024x1024 : Shape := ⟨2, ![1024, 1024]⟩
abbrev S16384x512 : Shape := ⟨2, ![16384, 512]⟩
abbrev S8x16384 : Shape := ⟨2, ![8, 16384]⟩
abbrev S16384x8 : Shape := ⟨2, ![16384, 8]⟩
abbrev S3072x1024 : Shape := ⟨2, ![3072, 1024]⟩
abbrev S4608x1024 : Shape := ⟨2, ![4608, 1024]⟩
abbrev S32x1024 : Shape := ⟨2, ![32, 1024]⟩
abbrev S16x1024 : Shape := ⟨2, ![16, 1024]⟩
abbrev S96x1024 : Shape := ⟨2, ![96, 1024]⟩
abbrev S512x512 : Shape := ⟨2, ![512, 512]⟩
abbrev S8x512 : Shape := ⟨2, ![8, 512]⟩
abbrev S512x8 : Shape := ⟨2, ![512, 8]⟩
abbrev S512 : Shape := ⟨1, ![512]⟩
abbrev S512x1 : Shape := ⟨2, ![512, 1]⟩
abbrev S512x128 : Shape := ⟨2, ![512, 128]⟩
abbrev S128x128 : Shape := ⟨2, ![128, 128]⟩
abbrev S8x128 : Shape := ⟨2, ![8, 128]⟩

abbrev nBuf : Space → Nat
  | .hbm => 23
  | .vmem => 42
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S5128x1024, .bf16⟩
  | .hbm, ⟨3, _⟩ => ⟨S512x1024, .bf16⟩
  | .hbm, ⟨4, _⟩ => ⟨S128x1024, .bf16⟩
  | .hbm, ⟨5, _⟩ => ⟨S8200x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S512x1024, .f32⟩
  | .hbm, ⟨10, _⟩ => ⟨S16384x512, .f32⟩
  | .hbm, ⟨11, _⟩ => ⟨S16384x1024, .bf16⟩
  | .hbm, ⟨12, _⟩ => ⟨S16384x1024, .bf16⟩
  | .hbm, ⟨13, _⟩ => ⟨S16384x1024, .bf16⟩
  | .hbm, ⟨14, _⟩ => ⟨S16384x1024, .f32⟩
  | .hbm, ⟨15, _⟩ => ⟨S16384x512, .bf16⟩
  | .hbm, ⟨16, _⟩ => ⟨S8x16384, .f32⟩
  | .hbm, ⟨17, _⟩ => ⟨S16384x8, .f32⟩
  | .hbm, ⟨18, _⟩ => ⟨S1024x1024, .bf16⟩
  | .hbm, ⟨19, _⟩ => ⟨S512x1024, .bf16⟩
  | .hbm, ⟨20, _⟩ => ⟨S1024x1024, .bf16⟩
  | .hbm, ⟨21, _⟩ => ⟨S512x1024, .bf16⟩
  | .hbm, ⟨22, _⟩ => ⟨S3072x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4608x1024, .bf16⟩
  | .local _ .vmem, ⟨4, _⟩ => ⟨S512x1024, .bf16⟩
  | .local _ .vmem, ⟨5, _⟩ => ⟨S128x1024, .bf16⟩
  | .local _ .vmem, ⟨6, _⟩ => ⟨S32x1024, .f32⟩
  | .local _ .vmem, ⟨7, _⟩ => ⟨S32x1024, .f32⟩
  | .local _ .vmem, ⟨8, _⟩ => ⟨S16x1024, .f32⟩
  | .local _ .vmem, ⟨9, _⟩ => ⟨S16x1024, .f32⟩
  | .local _ .vmem, ⟨10, _⟩ => ⟨S32x1024, .f32⟩
  | .local _ .vmem, ⟨11, _⟩ => ⟨S32x1024, .f32⟩
  | .local _ .vmem, ⟨12, _⟩ => ⟨S16x1024, .f32⟩
  | .local _ .vmem, ⟨13, _⟩ => ⟨S16x1024, .f32⟩
  | .local _ .vmem, ⟨14, _⟩ => ⟨S96x1024, .f32⟩
  | .local _ .vmem, ⟨15, _⟩ => ⟨S96x1024, .f32⟩
  | .local _ .vmem, ⟨16, _⟩ => ⟨S512x512, .f32⟩
  | .local _ .vmem, ⟨17, _⟩ => ⟨S512x512, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x512, .bf16⟩
  | .local _ .vmem, ⟨27, _⟩ => ⟨S512x512, .bf16⟩
  | .local _ .vmem, ⟨28, _⟩ => ⟨S8x512, .f32⟩
  | .local _ .vmem, ⟨29, _⟩ => ⟨S8x512, .f32⟩
  | .local _ .vmem, ⟨30, _⟩ => ⟨S512x8, .f32⟩
  | .local _ .vmem, ⟨31, _⟩ => ⟨S512x8, .f32⟩
  | .local _ .vmem, ⟨32, _⟩ => ⟨S32x1024, .bf16⟩
  | .local _ .vmem, ⟨33, _⟩ => ⟨S32x1024, .bf16⟩
  | .local _ .vmem, ⟨34, _⟩ => ⟨S16x1024, .bf16⟩
  | .local _ .vmem, ⟨35, _⟩ => ⟨S16x1024, .bf16⟩
  | .local _ .vmem, ⟨36, _⟩ => ⟨S32x1024, .bf16⟩
  | .local _ .vmem, ⟨37, _⟩ => ⟨S32x1024, .bf16⟩
  | .local _ .vmem, ⟨38, _⟩ => ⟨S16x1024, .bf16⟩
  | .local _ .vmem, ⟨39, _⟩ => ⟨S16x1024, .bf16⟩
  | .local _ .vmem, ⟨40, _⟩ => ⟨S96x1024, .bf16⟩
  | .local _ .vmem, ⟨41, _⟩ => ⟨S96x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev main_v0_12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c5128_i32 : BitVec 32 := 5128#32
  let arg0 : BitVec 32 := BitVec.ofNat 32 (i 0).val
  let c96_i32 : BitVec 32 := 96#32
  let v0 : BitVec 32 := Scalar.muli arg0 c96_i32
  let v1 : BitVec 32 := Scalar.addi c5128_i32 v0
  v1
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c96_i32 : BitVec 32 := 96#32
  let v0 : BitVec 32 := Scalar.muli arg0 c96_i32
  let c5128_i32 : BitVec 32 := 5128#32
  let v1 : BitVec 32 := Scalar.addi c5128_i32 v0
  let v2 : BitVec 32 := v1
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S96x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S96x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference4Ideal.lean ====
abbrev S16384x1024 : Shape := ⟨2, ![16384, 1024]⟩
abbrev S1x1024 : Shape := ⟨2, ![1, 1024]⟩
abbrev S5128x1024 : Shape := ⟨2, ![5128, 1024]⟩
abbrev S512x1024 : Shape := ⟨2, ![512, 1024]⟩
abbrev S128x1024 : Shape := ⟨2, ![128, 1024]⟩
abbrev S8200x1024 : Shape := ⟨2, ![8200, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S4608x1024 : Shape := ⟨2, ![4608, 1024]⟩
abbrev S1024x4608 : Shape := ⟨2, ![1024, 4608]⟩
abbrev S16384x4608 : Shape := ⟨2, ![16384, 4608]⟩
abbrev S8x1024 : Shape := ⟨2, ![8, 1024]⟩
abbrev S1024x8 : Shape := ⟨2, ![1024, 8]⟩
abbrev S16384x8 : Shape := ⟨2, ![16384, 8]⟩
abbrev S1024x512 : Shape := ⟨2, ![1024, 512]⟩
abbrev S16384x512 : Shape := ⟨2, ![16384, 512]⟩
abbrev S8x16384 : Shape := ⟨2, ![8, 16384]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S5128x1024, .bf16⟩
  | .hbm, ⟨3, _⟩ => ⟨S512x1024, .bf16⟩
  | .hbm, ⟨4, _⟩ => ⟨S128x1024, .bf16⟩
  | .hbm, ⟨5, _⟩ => ⟨S8200x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S512x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S4608x1024, .bf16⟩
  | .hbm, ⟨26, _⟩ => ⟨S4608x1024, .f32⟩
  | .hbm, ⟨27, _⟩ => ⟨S1024x4608, .f32⟩
  | .hbm, ⟨28, _⟩ => ⟨S16384x4608, .f32⟩
  | .hbm, ⟨29, _⟩ => ⟨S8x1024, .bf16⟩
  | .hbm, ⟨30, _⟩ => ⟨S8x1024, .f32⟩
  | .hbm, ⟨31, _⟩ => ⟨S1024x8, .f32⟩
  | .hbm, ⟨32, _⟩ => ⟨S16384x8, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S512x1024, .f32⟩
  | .hbm, ⟨40, _⟩ => ⟨S1024x512, .f32⟩
  | .hbm, ⟨41, _⟩ => ⟨S16384x512, .f32⟩
  | .hbm, ⟨42, _⟩ => ⟨S16384x512, .f32⟩
  | .hbm, ⟨43, _⟩ => ⟨S16384x1024, .bf16⟩
  | .hbm, ⟨44, _⟩ => ⟨S16384x1024, .bf16⟩
  | .hbm, ⟨45, _⟩ => ⟨S16384x1024, .bf16⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x512, .bf16⟩
  | .hbm, ⟨56, _⟩ => ⟨S8x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S1x1024 : Shape := ⟨2, ![1, 1024]⟩
abbrev S3072x1024 : Shape := ⟨2, ![3072, 1024]⟩
abbrev S512x1024 : Shape := ⟨2, ![512, 1024]⟩
abbrev S1024x1024 : Shape := ⟨2, ![1024, 1024]⟩
abbrev S512x512 : Shape := ⟨2, ![512, 512]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1024x256 : Shape := ⟨2, ![1024, 256]⟩

abbrev nBuf : Space → Nat
  | .hbm => 12
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x1024, .bf16⟩
  | .hbm, ⟨3, _⟩ => ⟨S16384x512, .bf16⟩
  | .hbm, ⟨4, _⟩ => ⟨S1x1024, .f32⟩
  | .hbm, ⟨5, _⟩ => ⟨S1x1024, .f32⟩
  | .hbm, ⟨6, _⟩ => ⟨S3072x1024, .bf16⟩
  | .hbm, ⟨7, _⟩ => ⟨S512x1024, .bf16⟩
  | .hbm, ⟨8, _⟩ => ⟨S1024x1024, .bf16⟩
  | .hbm, ⟨9, _⟩ => ⟨S512x1024, .bf16⟩
  | .hbm, ⟨10, _⟩ => ⟨S1024x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1x1024, .f32⟩
  | .local _ .vmem, ⟨10, _⟩ => ⟨S3072x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16384x1024 : Shape := ⟨2, ![16384, 1024]⟩
abbrev S16384x512 : Shape := ⟨2, ![16384, 512]⟩
abbrev S1x1024 : Shape := ⟨2, ![1, 1024]⟩
abbrev S3072x1024 : Shape := ⟨2, ![3072, 1024]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024x3072 : Shape := ⟨2, ![1024, 3072]⟩
abbrev S16384x3072 : Shape := ⟨2, ![16384, 3072]⟩
abbrev S16384x3x1024 : Shape := ⟨3, ![16384, 3, 1024]⟩
abbrev S16384x1x1024 : Shape := ⟨3, ![16384, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x1024, .bf16⟩
  | .hbm, ⟨3, _⟩ => ⟨S16384x512, .bf16⟩
  | .hbm, ⟨4, _⟩ => ⟨S1x1024, .f32⟩
  | .hbm, ⟨5, _⟩ => ⟨S1x1024, .f32⟩
  | .hbm, ⟨6, _⟩ => ⟨S3072x1024, .bf16⟩
  | .hbm, ⟨7, _⟩ => ⟨S512x1024, .bf16⟩
  | .hbm, ⟨8, _⟩ => ⟨S1024x1024, .bf16⟩
  | .hbm, ⟨9, _⟩ => ⟨S512x1024, .bf16⟩
  | .hbm, ⟨10, _⟩ => ⟨S1024x1024, .bf16⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S3072x1024, .f32⟩
  | .hbm, ⟨27, _⟩ => ⟨S1024x3072, .f32⟩
  | .hbm, ⟨28, _⟩ => ⟨S16384x3072, .f32⟩
  | .hbm, ⟨29, _⟩ => ⟨S16384x3x1024, .f32⟩
  | .hbm, ⟨30, _⟩ => ⟨S16384x3x1024, .f32⟩
  | .hbm, ⟨31, _⟩ => ⟨S16384x3x1024, .f32⟩
  | .hbm, ⟨32, _⟩ => ⟨S_, .f32⟩
  | .hbm, ⟨33, _⟩ => ⟨S16384x3x1024, .f32⟩
  | .hbm, ⟨34, _⟩ => ⟨S16384x3x1024, .f32⟩
  | .hbm, ⟨35, _⟩ => ⟨S_, .f32⟩
  | .hbm, ⟨36, _⟩ => ⟨S16384x3x1024, .f32⟩
  | .hbm, ⟨37, _⟩ => ⟨S16384x3x1024, .f32⟩
  | .hbm, ⟨38, _⟩ => ⟨S16384x1x1024, .f32⟩
  | .hbm, ⟨39, _⟩ => ⟨S16384x1024, .f32⟩
  | .hbm, ⟨40, _⟩ => ⟨S16384x512, .f32⟩
  | .hbm, ⟨41, _⟩ => ⟨S512x1024, .f32⟩
  | .hbm, ⟨42, _⟩ => ⟨S16384x1024, .f32⟩
  | .hbm, ⟨43, _⟩ => ⟨S16384x1024, .f32⟩
  | .hbm, ⟨44, _⟩ => ⟨S16384x1x1024, .f32⟩
  | .hbm, ⟨45, _⟩ => ⟨S16384x1024, .f32⟩
  | .hbm, ⟨46, _⟩ => ⟨S16384x1024, .f32⟩
  | .hbm, ⟨47, _⟩ => ⟨S1024x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1x1024, .f32⟩
  | .hbm, ⟨52, _⟩ => ⟨S16384x1024, .f32⟩
  | .hbm, ⟨53, _⟩ => ⟨S16384x512, .f32⟩
  | .hbm, ⟨54, _⟩ => ⟨S512x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1024x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel6.lean ====
abbrev S128x1024 : Shape := ⟨2, ![128, 1024]⟩
abbrev S1x1024 : Shape := ⟨2, ![1, 1024]⟩
abbrev S1024x4096 : Shape := ⟨2, ![1024, 4096]⟩
abbrev S4096x1024 : Shape := ⟨2, ![4096, 1024]⟩
abbrev S128 : Shape := ⟨1, ![128]⟩
abbrev S128x1 : Shape := ⟨2, ![128, 1]⟩
abbrev S128x4096 : Shape := ⟨2, ![128, 4096]⟩

abbrev nBuf : Space → Nat
  | .hbm => 6
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference6Ideal.lean ====
abbrev S128x1024 : Shape := ⟨2, ![128, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S128 : Shape := ⟨1, ![128]⟩
abbrev S128x1 : Shape := ⟨2, ![128, 1]⟩
abbrev S128x4096 : Shape := ⟨2, ![128, 4096]⟩

abbrev nBuf : Space → Nat
  | .hbm => 44
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S128x1024, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S1024x4096, .f32⟩
  | .hbm, ⟨21, _⟩ => ⟨S128x4096, .f32⟩
  | .hbm, ⟨22, _⟩ => ⟨S_, .f32⟩
  | .hbm, ⟨23, _⟩ => ⟨S128x4096, .f32⟩
  | .hbm, ⟨24, _⟩ => ⟨S128x4096, .f32⟩
  | .hbm, ⟨25, _⟩ => ⟨S128x4096, .f32⟩
  | .hbm, ⟨26, _⟩ => ⟨S4096x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128, .f32⟩
  | .hbm, ⟨31, _⟩ => ⟨S128x1, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S128x1, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Proof.Mlstm.Spec.lean ====
/- One head's chunk of the mLSTM recurrence over the extended reals: the scores with their decay weights, the numerator
   and the normaliser of a token, and the state handed to the next chunk. Kernel and reference are both read into it. -/
module

public import Idealize.ShloMosaic.Lib.Pointwise
public import Idealize.ShloMosaic.Lib.IdealHost

@[expose] public section

noncomputable section

namespace Cert.Mlstm

open Idealize.ShloMosaic

/-- What one head reads of one chunk: queries, keys, values and output gates, and the gate weights of each token. -/
structure Head where
  q : Fin 256 → Fin 256 → EReal
  k : Fin 256 → Fin 256 → EReal
  v : Fin 256 → Fin 256 → EReal
  og : Fin 256 → Fin 256 → EReal
  a : Fin 256 → EReal
  m : Fin 256 → EReal
  inter : Fin 256 → EReal
  least : Fin 256 → EReal
  wend : Fin 256 → EReal
  keep : EReal

variable (H : Head) (C : Fin 256 → Fin 256 → EReal) (n : Fin 256 → EReal)

/-- The weighted score of token `l` with the earlier token `s`; a later token has weight `exp ⊥ = 0`. -/
def Head.score (l s : Fin 256) : EReal :=
  (∑ e, H.q l e * H.k s e) * Ideal.exp (if (s : ℕ) ≤ l then H.a s - H.m l else ⊥)

/-- The numerator: the chunk's own values under the scores, and the carried matrix applied to the query. -/
def Head.num (l d : Fin 256) : EReal :=
  (∑ s, H.score l s * H.v s d) + H.inter l * ∑ e, H.q l e * C d e

/-- The normaliser before its lower bound. -/
def Head.den (l : Fin 256) : EReal :=
  (∑ s, H.score l s) + H.inter l * ∑ e, H.q l e * n e

/-- The bound normaliser. -/
def Head.bound (l : Fin 256) : EReal := max (max (H.den n l) (-H.den n l)) (H.least l)

/-- The gated output of token `l`, as a quotient. -/
def Head.out (l d : Fin 256) : EReal := H.og l d * Ideal.div (H.num C l d) (H.bound n l)

/-- The gated output of token `l`, as a product with the normaliser's reciprocal. -/
def Head.outRecip (l d : Fin 256) : EReal := H.og l d * (H.num C l d * Ideal.div 1 (H.bound n l))

/-- The matrix handed to the next chunk. -/
def Head.nextC (i j : Fin 256) : EReal := H.keep * C i j + ∑ s, (H.v s i * H.wend s) * H.k s j

/-- The normaliser's vector handed to the next chunk. -/
def Head.nextN (j : Fin 256) : EReal := H.keep * n j + ∑ s, H.k s j * H.wend s

/-- Quotient and product with the reciprocal agree where the lower bound is positive. -/
theorem Head.outRecip_eq (l d : Fin 256) (h : 0 < H.least l) : H.outRecip C n l d = H.out C n l d := by
  unfold outRecip out bound
  rw [Ideal.mul_one_div (ne_of_gt (lt_of_lt_of_le h (le_max_right _ _)))]

end Cert.Mlstm

end
-- ==== Proof.Mlstm.HeadR.lean ====
/- The reference's arithmetic for one batch row and head of a chunk, read at an index: one trip of its scan. -/
module

public import proofs.«01_k».proof.Proof.Gen.ReferenceIdeal.Step
public import proofs.«01_k».proof.Proof.Mlstm.Spec
public import Idealize.ShloMosaic.Lib.Pointwise
public import Idealize.ShloMosaic.Lib.WordCmp

@[expose] public section

set_option maxRecDepth 16384

noncomputable section

namespace Cert.Mlstm.Ref

open Idealize.ShloMosaic Idealize.ShloMosaic.TcCoe Cert.ReferenceIdeal Cert.ReferenceIdeal.Gen Cert.ReferenceIdeal.Step

/-- A trip's slice of a stack of chunks of rank five is the trip's member. -/
theorem slice5 {α : Type} (x : S8x8x256x4x256.Idx → α) (start : Fin 5 → Int) (hf : S8x8x256x4x256.Slices (fun _ => 0) S1x8x256x4x256)
    (hc : S1x8x256x4x256.ShapeCasts S8x256x4x256) (j : Fin 8) (e : ∀ a, start a = ((![(j : ℕ), 0, 0, 0, 0] : Fin 5 → ℕ) a : Int))
    (b : Fin 8) (l : Fin 256) (h : Fin 4) (d : Fin 256) :
    shapeCast S8x256x4x256 (Host.dynamicSlice S1x8x256x4x256 x start hf) hc (ix4 b l h d) = x (ix5 j b l h d) := by
  have hk : S8x8x256x4x256.Slices (![(j : ℕ), 0, 0, 0, 0] : Fin 5 → ℕ) S1x8x256x4x256 := by
    refine ⟨hf.1, fun a => ?_⟩
    have := j.isLt
    fin_cases a <;> simp <;> omega
  rw [WordCmp.dynamicSlice_eq_extract _ x start hf _ hk e]
  pointwise

/-- The mask of the reference: a token against an earlier one. -/
theorem causal_at (l s : Fin 256) : K_main_v20 (F := Ideal) (ix2 l s) = if (s : ℕ) ≤ l then 1#1 else 0#1 := by
  pointwise [K_main_v20, K_main_call0_v4, K_main_v19, K_main_call0_v5, K_main_c, K_main_call0_c_0, K_main_call0_v2, K_main_call0_v0, K_main_call0_v1, K_main_call0_c, K_main_call0_v3]
  have e : IntOp.addi (BitVec.ofNat 32 (l : ℕ)) 0#32 = BitVec.ofNat 32 (l : ℕ) := BitVec.add_zero _
  rw [e, WordCmp.cmpi_sge_ofNat (by omega) (by omega)]
  by_cases h : (s : ℕ) ≤ l <;> simp [h, Scalar.select]

/-- One head's data of a trip. -/
def headAt (j : ℕ) (s : State Ideal) (b : Fin 8) (h : Fin 4) : Head where
  q l e := b5 j s (ix4 b l h e)
  k l e := b11 j s (ix4 b l h e)
  v l e := b17 j s (ix4 b l h e)
  og l e := b23 j s (ix4 b l h e)
  a l := b28 j s (ix3 b l h)
  m l := b33 j s (ix3 b l h)
  inter l := b38 j s (ix3 b l h)
  least l := b43 j s (ix3 b l h)
  wend l := b48 j s (ix3 b l h)
  keep := b53 j s (ix3 b 0 h)

variable (j : ℕ) (s : State Ideal) (b : Fin 8) (h : Fin 4)

theorem nextC_at (i e : Fin 256) :
    b98 j s (ix4 b h i e) = (headAt j s b h).nextC (fun i e => s.main_v39_12 (ix4 b h i e)) i e := by
  unfold Head.nextC headAt
  pointwise [b98, b92, b97, b96, b95, b94, b93, b91, b90, b89, b88, b58]
  exact congrArg _ (Finset.sum_congr rfl fun x _ => by rw [mul_comm (b48 j s _)])

theorem nextN_at (e : Fin 256) :
    b103 j s (ix3 b h e) = (headAt j s b h).nextN (fun e => s.main_v39_13 (ix3 b h e)) e := by
  unfold Head.nextN headAt
  pointwise [b103, b102, b101, b100, b99, b89, b88, b58]
  exact congrArg _ (Finset.sum_congr rfl fun x _ => mul_comm _ _)

theorem score_at (l t : Fin 256) : b71 j s (ix4 b h l t) = (headAt j s b h).score l t := by
  unfold Head.score headAt
  pointwise [b71, b70, b69, b68, b67, b66, b65, b64, b63, b62, b61, b60, b59, b55, b54]
  have e : Ideal.ofBits FTy.f32 4286578688#32 = ⊥ := by decide
  rw [causal_at, e]
  by_cases h : (t : ℕ) ≤ l <;> simp [h, Scalar.select]

theorem num_at (l d : Fin 256) :
    b77 j s (ix4 b h l d) = (headAt j s b h).num (fun i e => s.main_v39_12 (ix4 b h i e)) l d := by
  unfold Head.num
  pointwise [b77, b76, b75, b74, b73, b72, b56]
  simp only [score_at]
  rfl

theorem den_at (l : Fin 256) :
    b82 j s (ix3 b h l) = (headAt j s b h).den (fun e => s.main_v39_13 (ix3 b h e)) l := by
  unfold Head.den
  pointwise [b82, b81, b80, b79, b78, b56]
  simp only [score_at]
  simp only [mul_comm (s.main_v39_13 _)]
  rfl

theorem out_at (l d : Fin 256) :
    b105 j s (ix4 b l h d)
      = (headAt j s b h).out (fun i e => s.main_v39_12 (ix4 b h i e)) (fun e => s.main_v39_13 (ix3 b h e)) l d := by
  unfold Head.out Head.bound
  pointwise [b105, b104, b87, b86, b85, b84, b83, b57]
  simp only [num_at, den_at]
  rfl

end Cert.Mlstm.Ref

end
-- ==== Proof.Mlstm.Seq.lean ====
/- The recurrence over the chunks: every head's data of every chunk as parts of the arguments, and the states after each chunk. -/
module

public import proofs.«01_k».proof.Proof.Mlstm.Spec

@[expose] public section

noncomputable section

namespace Cert.Mlstm

open Idealize.ShloMosaic

/-- The arguments: queries, keys, values and output gates by token and column, and the two arrays of gate weights. -/
structure Inputs where
  Q : Fin 16384 → Fin 1024 → EReal
  K : Fin 16384 → Fin 1024 → EReal
  V : Fin 16384 → Fin 1024 → EReal
  O : Fin 16384 → Fin 1024 → EReal
  R : Fin 8 → Fin 8 → Fin 2048 → EReal
  W : Fin 8 → Fin 2048 → Fin 128 → EReal

/-- Token `l` of chunk `c` within its sequence. -/
def tok (c : Fin 8) (l : Fin 256) : Fin 2048 := ⟨256 * (c : ℕ) + l, by omega⟩

/-- Token `l` of chunk `c` of sequence `b` among all tokens. -/
def row (b c : Fin 8) (l : Fin 256) : Fin 16384 := ⟨2048 * (b : ℕ) + (256 * (c : ℕ) + l), by omega⟩

/-- Column `e` of head `h`. -/
def lane (h : Fin 4) (e : Fin 256) : Fin 1024 := ⟨256 * (h : ℕ) + e, by omega⟩

variable (I : Inputs)

/-- The data of head `h` in chunk `c` of sequence `b`. -/
def Inputs.head (c b : Fin 8) (h : Fin 4) : Head where
  q l e := I.Q (row b c l) (lane h e)
  k l e := I.K (row b c l) (lane h e)
  v l e := I.V (row b c l) (lane h e)
  og l e := I.O (row b c l) (lane h e)
  a l := I.R b ⟨(h : ℕ), by omega⟩ (tok c l)
  m l := I.W b (tok c l) ⟨(h : ℕ), by omega⟩
  inter l := I.W b (tok c l) ⟨4 + (h : ℕ), by omega⟩
  least l := I.W b (tok c l) ⟨8 + (h : ℕ), by omega⟩
  wend l := I.W b (tok c l) ⟨12 + (h : ℕ), by omega⟩
  keep := I.W b (tok c 0) ⟨16 + (h : ℕ), by omega⟩

/-- The matrix state before chunk `n`. -/
def Inputs.matC (b : Fin 8) (h : Fin 4) : ℕ → Fin 256 → Fin 256 → EReal
  | 0 => fun _ _ => 0
  | n + 1 => if hn : n < 8 then (I.head ⟨n, hn⟩ b h).nextC (Inputs.matC b h n) else Inputs.matC b h n

/-- The vector state before chunk `n`. -/
def Inputs.vecN (b : Fin 8) (h : Fin 4) : ℕ → Fin 256 → EReal
  | 0 => fun _ => 0
  | n + 1 => if hn : n < 8 then (I.head ⟨n, hn⟩ b h).nextN (Inputs.vecN b h n) else Inputs.vecN b h n

theorem Inputs.matC_succ (b : Fin 8) (h : Fin 4) (c : Fin 8) :
    I.matC b h (c + 1) = (I.head c b h).nextC (I.matC b h c) := by
  rw [Inputs.matC, dif_pos c.isLt]

theorem Inputs.vecN_succ (b : Fin 8) (h : Fin 4) (c : Fin 8) :
    I.vecN b h (c + 1) = (I.head c b h).nextN (I.vecN b h c) := by
  rw [Inputs.vecN, dif_pos c.isLt]

/-- Output `e` of token `r` of sequence `b`: head `e / 256` in chunk `r / 256`, from the states before that chunk. -/
def Inputs.y (b : Fin 8) (r : Fin 2048) (e : Fin 1024) : EReal :=
  let h : Fin 4 := ⟨(e : ℕ) / 256, by omega⟩
  let c : Fin 8 := ⟨(r : ℕ) / 256, by omega⟩
  (I.head c b h).out (I.matC b h c) (I.vecN b h c) ⟨(r : ℕ) % 256, by omega⟩ ⟨(e : ℕ) % 256, by omega⟩

theorem Inputs.y_at (b c : Fin 8) (l : Fin 256) (h : Fin 4) (d : Fin 256) :
    I.y b (tok c l) (lane h d) = (I.head c b h).out (I.matC b h c) (I.vecN b h c) l d := by
  have e1 : (256 * (c : ℕ) + l) / 256 = c := by omega
  have e2 : (256 * (c : ℕ) + l) % 256 = l := by omega
  have e3 : (256 * (h : ℕ) + d) / 256 = h := by omega
  have e4 : (256 * (h : ℕ) + d) % 256 = d := by omega
  unfold Inputs.y tok lane
  simp only [e1, e2, e3, e4, Fin.eta]

end Cert.Mlstm

end
-- ==== Proof.Mlstm.RefSeq.lean ====
/- The reference's scan: its states are the recurrence's, and the stacked outputs are the gated quotients of every chunk. -/
module

public import proofs.«01_k».proof.Proof.Mlstm.HeadR
public import proofs.«01_k».proof.Proof.Mlstm.Seq

@[expose] public section

set_option maxRecDepth 16384

noncomputable section

namespace Cert.Mlstm.Ref

open Idealize.ShloMosaic Idealize.ShloMosaic.TcCoe Cert.ReferenceIdeal Cert.ReferenceIdeal.Gen Cert.ReferenceIdeal.Step

/-- A trip's slice of a stack of chunks of rank four is the trip's member. -/
theorem slice4 {α : Type} (x : S8x8x256x4.Idx → α) (start : Fin 4 → Int) (hf : S8x8x256x4.Slices (fun _ => 0) S1x8x256x4)
    (hc : S1x8x256x4.ShapeCasts S8x256x4) (j : Fin 8) (e : ∀ a, start a = ((![(j : ℕ), 0, 0, 0] : Fin 4 → ℕ) a : Int))
    (b : Fin 8) (l : Fin 256) (h : Fin 4) :
    shapeCast S8x256x4 (Host.dynamicSlice S1x8x256x4 x start hf) hc (ix3 b l h) = x (ix4 j b l h) := by
  have hk : S8x8x256x4.Slices (![(j : ℕ), 0, 0, 0] : Fin 4 → ℕ) S1x8x256x4 := by
    refine ⟨hf.1, fun a => ?_⟩
    have := j.isLt
    fin_cases a <;> simp <;> omega
  rw [WordCmp.dynamicSlice_eq_extract _ x start hf _ hk e]
  pointwise

/-- The number of a trip, as the word the loop holds. -/
theorem trip_word (j : Fin 8) : (BitVec.ofNat 32 (j : ℕ)).toInt = ((j : ℕ) : Int) :=
  WordCmp.toInt_ofNat_of_lt (by have := j.isLt; omega)

variable (x0 x1 x2 : FVec Ideal S16384x1024 .bf16) (x3 : FVec Ideal S16384x1024 .f32) (x4 : FVec Ideal S8x8x2048 .f32)
  (x5 : FVec Ideal S8x2048x128 .f32)

/-- The arguments, read by coordinates. -/
def inputs : Inputs where
  Q r e := x0 (ix2 r e)
  K r e := x1 (ix2 r e)
  V r e := x2 (ix2 r e)
  O r e := x3 (ix2 r e)
  R b g r := x4 (ix3 b g r)
  W b r g := x5 (ix3 b r g)

/-- The loop's constants are those of the initial state. -/
structure Same (s : State Ideal) : Prop where
  q : s.main_v39_0 = A_main_v26 x0 x1 x2 x3 x4 x5
  k : s.main_v39_1 = A_main_v30 x0 x1 x2 x3 x4 x5
  v : s.main_v39_2 = A_main_v34 x0 x1 x2 x3 x4 x5
  og : s.main_v39_3 = A_main_v37 x0 x1 x2 x3 x4 x5
  a : s.main_v39_4 = A_main_v3 x0 x1 x2 x3 x4 x5
  m : s.main_v39_5 = A_main_v6 x0 x1 x2 x3 x4 x5
  inter : s.main_v39_6 = A_main_v9 x0 x1 x2 x3 x4 x5
  least : s.main_v39_7 = A_main_v12 x0 x1 x2 x3 x4 x5
  wend : s.main_v39_8 = A_main_v15 x0 x1 x2 x3 x4 x5
  keep : s.main_v39_9 = A_main_v18 x0 x1 x2 x3 x4 x5

theorem same_init : Same x0 x1 x2 x3 x4 x5 (init x0 x1 x2 x3 x4 x5) := ⟨rfl, rfl, rfl, rfl, rfl, rfl, rfl, rfl, rfl, rfl⟩

theorem Same.step {s : State Ideal} (hs : Same x0 x1 x2 x3 x4 x5 s) (j : ℕ) : Same x0 x1 x2 x3 x4 x5 (step j s) :=
  ⟨hs.q, hs.k, hs.v, hs.og, hs.a, hs.m, hs.inter, hs.least, hs.wend, hs.keep⟩

/-- A trip's slice of one of the four large stacks. -/
theorem big_at (y : S16384x1024.Idx → EReal) (b c : Fin 8) (l : Fin 256) (h : Fin 4) (e : Fin 256)
    (h1 : S16384x1024.ShapeCasts S8x2048x4x256) (h2 : S8x2048x4x256.ShapeCasts S8x8x256x4x256)
    (h3 : S8x8x256x4x256.Transposes [1, 0, 2, 3, 4] S8x8x256x4x256) :
    transpose S8x8x256x4x256 [1, 0, 2, 3, 4] (shapeCast S8x8x256x4x256 (shapeCast S8x2048x4x256 y h1) h2) h3 (ix5 c b l h e)
      = y (ix2 (row b c l) (lane h e)) := by
  unfold row lane
  pointwise
  simp only [show b.val * 2048 + c.val * 256 + l.val = 2048 * b.val + (256 * c.val + l.val) by omega,
    show h.val * 256 + e.val = 256 * h.val + e.val by omega]

/-- One of the columns of gate weights. -/
theorem col_at (o : ℕ) (ho : o + 4 ≤ 128) (b c : Fin 8) (l : Fin 256) (h : Fin 4)
    (h0 : S8x2048x128.Slices ![0, 0, o] S8x2048x4) (h2 : S8x2048x4.ShapeCasts S8x8x256x4)
    (h3 : S8x8x256x4.Transposes [1, 0, 2, 3] S8x8x256x4) :
    transpose S8x8x256x4 [1, 0, 2, 3] (shapeCast S8x8x256x4 (extractStridedSlice S8x2048x4 ![0, 0, o] x5 h0) h2) h3 (ix4 c b l h)
      = x5 (ix3 b (tok c l) ⟨o + (h : ℕ), by omega⟩) := by
  unfold tok
  pointwise
  simp only [show c.val * 256 + l.val = 256 * c.val + l.val by omega]

theorem row_at (b c : Fin 8) (l : Fin 256) (h : Fin 4) :
    A_main_v3 (F := Ideal) x0 x1 x2 x3 x4 x5 (ix4 c b l h) = x4 (ix3 b ⟨(h : ℕ), by omega⟩ (tok c l)) := by
  unfold tok
  pointwise [A_main_v3, A_main_v2, A_main_v1, A_main_v0]
  simp only [show c.val * 256 + l.val = 256 * c.val + l.val by omega]

variable {x0 x1 x2 x3 x4 x5}

theorem head_of_same {s : State Ideal} (hs : Same x0 x1 x2 x3 x4 x5 s) (c b : Fin 8) (h : Fin 4) :
    headAt c s b h = (inputs x0 x1 x2 x3 x4 x5).head c b h := by
  have start5 : ∀ a : Fin 5, ((((![(constantI S_ 32 (BitVec.ofNat 32 (c : ℕ)) : S_.Idx → BitVec 32), (constantI S_ 32 0#32), (constantI S_ 32 0#32), (constantI S_ 32 0#32), (constantI S_ 32 0#32)] : Fin 5 → S_.Idx → BitVec 32))) a (Shape.Idx.first h_S_)).toInt = ((![(c : ℕ), 0, 0, 0, 0] : Fin 5 → ℕ) a : Int) := by
    intro a
    fin_cases a
    · exact trip_word c
    all_goals rfl
  have start4 : ∀ a : Fin 4, ((((![(constantI S_ 32 (BitVec.ofNat 32 (c : ℕ)) : S_.Idx → BitVec 32), (constantI S_ 32 0#32), (constantI S_ 32 0#32), (constantI S_ 32 0#32)] : Fin 4 → S_.Idx → BitVec 32))) a (Shape.Idx.first h_S_)).toInt = ((![(c : ℕ), 0, 0, 0] : Fin 4 → ℕ) a : Int) := by
    intro a
    fin_cases a
    · exact trip_word c
    all_goals rfl
  unfold headAt Inputs.head
  congr 1
  · funext l e
    exact (slice5 _ _ _ _ c start5 b l h e).trans (by rw [hs.q]; exact big_at _ b c l h e _ _ _)
  · funext l e
    exact (slice5 _ _ _ _ c start5 b l h e).trans (by rw [hs.k]; exact big_at _ b c l h e _ _ _)
  · funext l e
    exact (slice5 _ _ _ _ c start5 b l h e).trans (by rw [hs.v]; exact big_at _ b c l h e _ _ _)
  · funext l e
    exact (slice5 _ _ _ _ c start5 b l h e).trans (by rw [hs.og]; exact big_at _ b c l h e _ _ _)
  · funext l
    exact (slice4 _ _ _ _ c start4 b l h).trans (by rw [hs.a]; exact row_at x0 x1 x2 x3 x4 x5 b c l h)
  · funext l
    exact (slice4 _ _ _ _ c start4 b l h).trans (by rw [hs.m]; exact (col_at x5 0 (by omega) b c l h _ _ _).trans (by simp [inputs]))
  · funext l
    exact (slice4 _ _ _ _ c start4 b l h).trans (by rw [hs.inter]; exact col_at x5 4 (by omega) b c l h _ _ _)
  · funext l
    exact (slice4 _ _ _ _ c start4 b l h).trans (by rw [hs.least]; exact col_at x5 8 (by omega) b c l h _ _ _)
  · funext l
    exact (slice4 _ _ _ _ c start4 b l h).trans (by rw [hs.wend]; exact col_at x5 12 (by omega) b c l h _ _ _)
  · exact (slice4 _ _ _ _ c start4 b 0 h).trans (by rw [hs.keep]; exact col_at x5 16 (by omega) b c 0 h _ _ _)

variable {it : ℕ → State Ideal} (h0 : it 0 = init x0 x1 x2 x3 x4 x5) (hs : ∀ n, it (n + 1) = step n (it n))
include h0 hs

theorem same_it (n : ℕ) : Same x0 x1 x2 x3 x4 x5 (it n) := by
  induction n with
  | zero => rw [h0]; exact same_init ..
  | succ n ih => rw [hs]; exact ih.step _ _ _ _ _ _ _

/-- The states before trip `n` are the recurrence's. -/
theorem state_it (n : ℕ) (hn : n ≤ 8) :
    (∀ b h i e, (it n).main_v39_12 (ix4 b h i e) = (inputs x0 x1 x2 x3 x4 x5).matC b h n i e)
      ∧ ∀ b h e, (it n).main_v39_13 (ix3 b h e) = (inputs x0 x1 x2 x3 x4 x5).vecN b h n e := by
  induction n with
  | zero =>
    rw [h0]
    constructor
    · intro b h i e
      show K_main_v21 (F := Ideal) (ix4 b h i e) = 0
      pointwise [K_main_v21, K_main_cst]
    · intro b h e
      show K_main_v22 (F := Ideal) (ix3 b h e) = 0
      pointwise [K_main_v22, K_main_cst_0]
  | succ n ih =>
    obtain ⟨hC, hN⟩ := ih (by omega)
    have hd := head_of_same (same_it h0 hs n) ⟨n, by omega⟩
    rw [hs]
    constructor
    · intro b h i e
      refine (nextC_at n (it n) b h i e).trans ?_
      rw [(inputs x0 x1 x2 x3 x4 x5).matC_succ b h ⟨n, by omega⟩, ← hd]
      exact congrArg (fun C => Head.nextC _ C i e) (funext fun i => funext fun e => hC b h i e)
    · intro b h e
      refine (nextN_at n (it n) b h e).trans ?_
      rw [(inputs x0 x1 x2 x3 x4 x5).vecN_succ b h ⟨n, by omega⟩, ← hd]
      exact congrArg (fun N => Head.nextN _ N e) (funext fun e => hN b h e)

/-- The gated outputs a trip adds to the stack. -/
theorem trip_out (c b : Fin 8) (l : Fin 256) (h : Fin 4) (d : Fin 256) :
    b105 c (it c) (ix4 b l h d) = ((inputs x0 x1 x2 x3 x4 x5).head c b h).out ((inputs x0 x1 x2 x3 x4 x5).matC b h c)
      ((inputs x0 x1 x2 x3 x4 x5).vecN b h c) l d := by
  obtain ⟨hC, hN⟩ := state_it h0 hs c (le_of_lt c.isLt)
  rw [out_at, head_of_same (same_it h0 hs c)]
  congr 1
  · funext i e; exact hC b h i e
  · funext e; exact hN b h e

omit h0 hs in
/-- The stack after a trip: the trip's member is what it adds, the others stay. -/
theorem stack_step (j : Fin 8) (c b : Fin 8) (l : Fin 256) (h : Fin 4) (d : Fin 256) (s : State Ideal) :
    b111 j s (ix5 c b l h d) = if c = j then b105 j s (ix4 b l h d) else s.main_v39_14 (ix5 c b l h d) := by
  have hk : S8x8x256x4x256.Slices (![(j : ℕ), 0, 0, 0, 0] : Fin 5 → ℕ) S1x8x256x4x256 := by
    refine ⟨rfl, fun a => ?_⟩
    have := j.isLt
    fin_cases a <;> simp <;> omega
  unfold b111 b106
  rw [WordCmp.dynamicUpdateSlice_eq_update _ _ _ _ _ hk (fun a => by fin_cases a <;> first | exact trip_word j | rfl)]
  by_cases e : c = j
  · subst e
    rw [if_pos rfl]
    pointwise
    exact dif_pos (by omega)
  · rw [if_neg e]
    pointwise
    exact dif_neg fun h => e (Fin.ext (by omega))

/-- The stack before trip `n` holds the outputs of the chunks before it. -/
theorem stack_it (n : ℕ) (hn : n ≤ 8) (c b : Fin 8) (hc : (c : ℕ) < n) (l : Fin 256) (h : Fin 4) (d : Fin 256) :
    (it n).main_v39_14 (ix5 c b l h d) = ((inputs x0 x1 x2 x3 x4 x5).head c b h).out ((inputs x0 x1 x2 x3 x4 x5).matC b h c)
      ((inputs x0 x1 x2 x3 x4 x5).vecN b h c) l d := by
  induction n with
  | zero => omega
  | succ n ih =>
    rw [hs]
    refine (stack_step ⟨n, by omega⟩ c b l h d (it n)).trans ?_
    by_cases e : c = ⟨n, by omega⟩
    · rw [if_pos e]
      have e' : n = (c : ℕ) := by rw [e]
      subst e'
      exact trip_out h0 hs c b l h d
    · rw [if_neg e]
      refine ih (by omega) ?_
      have : (c : ℕ) ≠ n := fun e' => e (Fin.ext e')
      omega

end Cert.Mlstm.Ref

end
-- ==== Proof.Mlstm.RefRun.lean ====
/- The reference's run ends at the states of the recurrence written as steps: a trip of the loop takes the state the buffers
   hold to the next one, and what precedes the loop leaves the first. -/
module

public import proofs.«01_k».proof.Proof.Gen.ReferenceIdeal.Run
public import proofs.«01_k».proof.Proof.Mlstm.RefSeq

@[expose] public section

set_option maxRecDepth 16384

noncomputable section

namespace Cert.Mlstm.Ref

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

/-- The state the loop's buffers hold. -/
def held (V : Valuation τ sig (Elt Ideal)) : State Ideal where
  main_v39_12 := V (Proc.devRef .tc main_v39_12)
  main_v39_13 := V (Proc.devRef .tc main_v39_13)
  main_v39_14 := V (Proc.devRef .tc main_v39_14)
  main_v39_0 := V (Proc.devRef .tc main_v39_0)
  main_v39_1 := V (Proc.devRef .tc main_v39_1)
  main_v39_2 := V (Proc.devRef .tc main_v39_2)
  main_v39_3 := V (Proc.devRef .tc main_v39_3)
  main_v39_4 := V (Proc.devRef .tc main_v39_4)
  main_v39_5 := V (Proc.devRef .tc main_v39_5)
  main_v39_6 := V (Proc.devRef .tc main_v39_6)
  main_v39_7 := V (Proc.devRef .tc main_v39_7)
  main_v39_8 := V (Proc.devRef .tc main_v39_8)
  main_v39_9 := V (Proc.devRef .tc main_v39_9)

/-- The buffers before trip `j`: the state, the trip's number and the causal mask. -/
structure Before (V : Valuation τ sig (Elt Ideal)) (s : State Ideal) (j : ℕ) : Prop where
  state : held V = s
  trip : V (Proc.devRef .tc main_v39_11) = constantI S_ 32 (BitVec.ofNat 32 j)
  mask : V (Proc.devRef .tc main_v39_10) = K_main_v20 (F := Ideal)

section
variable {V : Valuation τ sig (Elt Ideal)} {j : ℕ} (ht : V (Proc.devRef .tc main_v39_11) = constantI S_ 32 (BitVec.ofNat 32 j))
  (hm : V (Proc.devRef .tc main_v39_10) = K_main_v20 (F := Ideal))
include ht

/-! The values a trip uses more than once are those of the step. -/

theorem shared_q : res_main_while0b_v44 V = b5 j (held V) := by
  unfold res_main_while0b_v44; rw [ht]; rfl

theorem shared_k : res_main_while0b_v45 V = b11 j (held V) := by
  unfold res_main_while0b_v45; rw [ht]; rfl

theorem shared_v : res_main_while0b_v46 V = b17 j (held V) := by
  unfold res_main_while0b_v46; rw [ht]; rfl

theorem shared_inter : res_main_while0b_v56 V = b56 j (held V) := by
  unfold res_main_while0b_v56; rw [ht]; rfl

theorem shared_end : res_main_while0b_v58 V = b58 j (held V) := by
  unfold res_main_while0b_v58; rw [ht]; rfl

theorem shared_keep : res_main_while0b_v84 V = b89 j (held V) := by
  unfold res_main_while0b_v84; rw [ht]; rfl

include hm in
theorem shared_s : res_main_while0b_v67 V = b71 j (held V) := by
  unfold res_main_while0b_v67; rw [ht, hm, shared_q ht, shared_k ht]; rfl

/-! A trip's new state is the step's, field by field. -/

theorem next_C : Value.step_main_v39_12 V = b98 j (held V) := by
  unfold Value.step_main_v39_12; rw [shared_keep ht, shared_end ht, shared_k ht, shared_v ht]; rfl

theorem next_n : Value.step_main_v39_13 V = b103 j (held V) := by
  unfold Value.step_main_v39_13; rw [shared_keep ht, shared_end ht, shared_k ht]; rfl

include hm in
theorem next_y : Value.step_main_v39_14 V = b111 j (held V) := by
  unfold Value.step_main_v39_14; rw [ht, shared_s ht hm, shared_inter ht, shared_q ht, shared_v ht]; rfl

end

/-- A trip takes the state to the next. -/
theorem Before.next {V : Valuation τ sig (Elt Ideal)} {s : State Ideal} {j : ℕ} (h : Before V s j) : Before (STEP V) (step j s) (j + 1) := by
  obtain ⟨rfl, ht, hm⟩ := h
  refine ⟨?_, ?_, (STEP_main_v39_10 V).trans hm⟩
  · unfold held step
    rw [STEP_main_v39_12, STEP_main_v39_13, STEP_main_v39_14, STEP_main_v39_0, STEP_main_v39_1, STEP_main_v39_2, STEP_main_v39_3,
      STEP_main_v39_4, STEP_main_v39_5, STEP_main_v39_6, STEP_main_v39_7, STEP_main_v39_8, STEP_main_v39_9, next_C ht, next_n ht,
      next_y ht hm]
    rfl
  · rw [STEP_main_v39_11]
    unfold Value.step_main_v39_11
    rw [ht]
    funext i
    show BitVec.ofNat 32 j + 1#32 = BitVec.ofNat 32 (j + 1)
    simp only [BitVec.ofNat_add]

variable (m : (ℓ : Loc nD τ sig) → Buf (Elt Ideal) ℓ) (c : Dev nD)

/-- The first state, of the arguments. -/
abbrev first : State Ideal :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

set_option maxRecDepth 65536 in
set_option maxHeartbeats 700000 in
/-- What precedes the loop leaves the first state. -/
theorem before_first : Before (entryContents preI m c) (first m c) 0 := by
  have e {s t : State Ideal} (h12 : s.main_v39_12 = t.main_v39_12) (h13 : s.main_v39_13 = t.main_v39_13) (h14 : s.main_v39_14 = t.main_v39_14)
      (h0 : s.main_v39_0 = t.main_v39_0) (h1 : s.main_v39_1 = t.main_v39_1) (h2 : s.main_v39_2 = t.main_v39_2)
      (h3 : s.main_v39_3 = t.main_v39_3) (h4 : s.main_v39_4 = t.main_v39_4) (h5 : s.main_v39_5 = t.main_v39_5)
      (h6 : s.main_v39_6 = t.main_v39_6) (h7 : s.main_v39_7 = t.main_v39_7) (h8 : s.main_v39_8 = t.main_v39_8)
      (h9 : s.main_v39_9 = t.main_v39_9) : s = t := by
    cases s; cases t; simp_all
  constructor
  · apply e <;> (simp only [held, entryContents, afterL_cons, afterL_nil]; after_reads_simp) <;> rfl
  · (simp only [entryContents, afterL_cons, afterL_nil]; after_reads_simp) <;> rfl
  · (simp only [entryContents, afterL_cons, afterL_nil]; after_reads_simp) <;> rfl

/-- The states: the first one and a step per trip. -/
def states : ℕ → State Ideal
  | 0 => first m c
  | n + 1 => step n (states n)

/-- Before every trip the buffers hold that trip's state. -/
theorem before_states : ∀ k, Before (STEP^[k] (entryContents preI m c)) (states m c k) k
  | 0 => before_first m c
  | k + 1 => by
    rw [Function.iterate_succ_apply']
    exact (before_states k).next

theorem last_y (V : Valuation τ sig (Elt Ideal)) : out_main_v42 V = R_main_v42 (held V) := by
  unfold out_main_v42 R_main_v42; rfl

theorem last_n (V : Valuation τ sig (Elt Ideal)) : out_main_v43 V = R_main_v43 (held V) := by
  unfold out_main_v43 R_main_v43; rfl

/-- The run's results are read off the state after the last trip, and the arguments stay. -/
theorem run_states (g : Dev nD → PrngReg) :
    θ_run (defs (F := Ideal)) (onTc (τ := τ) (main (F := Ideal))) ⟨m, fun _ => 0, g⟩ fun r => ∀ c : Dev nD,
      r.2.mem ((c.tc : Thread nD τ).loc main_v42) = R_main_v42 (states m c 8)
      ∧ r.2.mem ((c.tc : Thread nD τ).loc main_v39_12) = (states m c 8).main_v39_12
      ∧ r.2.mem ((c.tc : Thread nD τ).loc main_v43) = R_main_v43 (states m c 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (Value.run m g)
  have hb := (before_states m c 8).state
  obtain ⟨hy, hC, hn, hargs⟩ := h c
  generalize STEP^[8] (entryContents preI m c) = V at hb hy hC hn
  generalize states m c 8 = s at hb ⊢
  subst hb
  exact ⟨hy.trans (last_y V), hC, hn.trans (last_n V), hargs⟩

end Cert.Mlstm.Ref

end
-- ==== Proof.Mlstm.HeadK.lean ====
/- The kernel's arithmetic for one batch row and head of a chunk, read at an index. -/
module

public import proofs.«01_k».proof.Proof.Gen.KernelIdeal.Skeleton
public import proofs.«01_k».proof.Proof.Mlstm.Spec
public import Idealize.ShloMosaic.Lib.Pointwise
public import Idealize.ShloMosaic.Lib.WordCmp

@[expose] public section

set_option maxRecDepth 16384

noncomputable section

namespace Cert.Mlstm

open Idealize.ShloMosaic Idealize.ShloMosaic.TcCoe Cert.KernelIdeal Cert.KernelIdeal.Gen

section
variable {F : FTy → Type} [FloatOps F] [Named F]
variable (q k v : Vec F S1x256x256 .bf16) (og : Vec F S1x256x256 .f32) (a : Vec F S1x1x256 .f32)
  (m wi ei we : Vec F S1x256x1 .f32) (dc : Vec F S1x1x1 .f32)
  (C : Vec F S1x1x256x256 .f32) (n : Vec F S1x1x1x256 .f32)

/-- What one head stores into the output. -/
def headY : FVec F S1x256x256 .bf16 :=
  k0_pay18 (k0_pay16 k0_pay4 (k0_pay5 q) (k0_pay6 k) (k0_pay7 v) (k0_pay8 a) (k0_pay9 m) (k0_pay10 wi) C)
    (k0_pay17 k0_pay4 (k0_pay5 q) (k0_pay6 k) (k0_pay8 a) (k0_pay9 m) (k0_pay10 wi) ei n) og

/-- What one head stores into the matrix state. -/
def headC : FVec F S1x1x256x256 .f32 :=
  k0_pay19 (k0_pay6 k) (k0_pay7 v) (k0_pay11 we) (k0_pay12 dc) (k0_pay14 C)

/-- What one head stores into the vector state. -/
def headN : FVec F S1x1x1x256 .f32 :=
  k0_pay20 (k0_pay6 k) (k0_pay11 we) (k0_pay12 dc) (k0_pay15 n)
end

variable (q k v : FVec Ideal S1x256x256 .bf16) (og : FVec Ideal S1x256x256 .f32) (a : FVec Ideal S1x1x256 .f32)
  (m wi ei we : FVec Ideal S1x256x1 .f32) (dc : FVec Ideal S1x1x1 .f32)
  (C : FVec Ideal S1x1x256x256 .f32) (n : FVec Ideal S1x1x1x256 .f32)

/-- The head's data as the kernel's loads hold it. -/
def headOf : Head where
  q l e := q (ix3 0 l e)
  k l e := k (ix3 0 l e)
  v l e := v (ix3 0 l e)
  og l e := og (ix3 0 l e)
  a l := a (ix3 0 0 l)
  m l := m (ix3 0 l 0)
  inter l := wi (ix3 0 l 0)
  least l := ei (ix3 0 l 0)
  wend l := we (ix3 0 l 0)
  keep := dc (ix3 0 0 0)

/-- The kernel's select between a weight's exponent and the mask constant is the comparison of the two tokens. -/
theorem mask_select (s l : Fin 256) (x : EReal) :
    Scalar.select (IntOp.cmpi .sle (BitVec.ofNat 32 (s : ℕ)) (BitVec.ofNat 32 (l : ℕ))) x
        (Named.named (F := Ideal) κ "mask" (φ := .f32) 0xF149F2CA#32)
      = if (s : ℕ) ≤ l then x else ⊥ := by
  rw [IdealRules.named_const.ideal_named_scalar κ "mask" _ _ rfl, WordCmp.cmpi_sle_ofNat (by omega) (by omega)]
  by_cases h : (s : ℕ) ≤ l <;> simp [h, Scalar.select]

theorem headC_at (i j : Fin 256) :
    headC (F := Ideal) k v we dc C (ix4 0 0 i j) = (headOf q k v og a m wi ei we dc).nextC (fun i j => C (ix4 0 0 i j)) i j := by
  unfold Head.nextC headOf
  pointwise [headC, k0_pay19, k0_pay6, k0_pay7, k0_pay11, k0_pay12, k0_pay14]

theorem headN_at (j : Fin 256) :
    headN (F := Ideal) k we dc n (ix4 0 0 0 j) = (headOf q k v og a m wi ei we dc).nextN (fun j => n (ix4 0 0 0 j)) j := by
  unfold Head.nextN headOf
  pointwise [headN, k0_pay20, k0_pay6, k0_pay11, k0_pay12, k0_pay15]

theorem headY_at (l d : Fin 256) :
    headY (F := Ideal) q k v og a m wi ei C n (ix3 0 l d)
      = (headOf q k v og a m wi ei we dc).outRecip (fun i j => C (ix4 0 0 i j)) (fun j => n (ix4 0 0 0 j)) l d := by
  unfold Head.outRecip Head.num Head.bound Head.den Head.score headOf
  pointwise [headY, k0_pay4, k0_pay5, k0_pay6, k0_pay7, k0_pay8, k0_pay9, k0_pay10, k0_pay13, k0_pay14, k0_pay15, k0_pay16, k0_pay17, k0_pay18]
  simp only [mask_select]
  rfl

end Cert.Mlstm

end
-- ==== Proof.Mlstm.BlockHead.lean ====
/- One head's data in the blocks a grid point reads, and the three stored values of a head named by such data. -/
module

public import proofs.«01_k».proof.Proof.Mlstm.HeadK
public import Idealize.ShloMosaic.Lib.Pipeline.ValueKit
public import Idealize.ShloMosaic.Lib.WholeRead

@[expose] public section

set_option maxRecDepth 16384

noncomputable section

namespace Cert.Mlstm

open Idealize.ShloMosaic Idealize.ShloMosaic.TcCoe Cert.KernelIdeal Cert.KernelIdeal.Gen

/-- The data of batch row `p` and head `h` of a group, in the blocks a grid point reads. -/
def blkHead (x0 x1 x2 : S4x256x1024.Idx → EReal) (x3 : S4x256x1024.Idx → EReal) (x4 : S4x8x256.Idx → EReal)
    (x5 : S4x256x128.Idx → EReal) (p h : Fin 4) : Head where
  q l e := x0 (ix3 p l ⟨256 * (h : ℕ) + e, by omega⟩)
  k l e := x1 (ix3 p l ⟨256 * (h : ℕ) + e, by omega⟩)
  v l e := x2 (ix3 p l ⟨256 * (h : ℕ) + e, by omega⟩)
  og l e := x3 (ix3 p l ⟨256 * (h : ℕ) + e, by omega⟩)
  a l := x4 (ix3 p ⟨(h : ℕ), by omega⟩ l)
  m l := x5 (ix3 p l ⟨(h : ℕ), by omega⟩)
  inter l := x5 (ix3 p l ⟨4 + (h : ℕ), by omega⟩)
  least l := x5 (ix3 p l ⟨8 + (h : ℕ), by omega⟩)
  wend l := x5 (ix3 p l ⟨12 + (h : ℕ), by omega⟩)
  keep := x5 (ix3 p 0 ⟨16 + (h : ℕ), by omega⟩)

/-- A stored matrix state at an index, its operands named by a head's data. -/
theorem headC_eq (k v : FVec Ideal S1x256x256 .bf16) (we : FVec Ideal S1x256x1 .f32) (dc : FVec Ideal S1x1x1 .f32)
    (C : FVec Ideal S1x1x256x256 .f32) (H : Head) (C' : Fin 256 → Fin 256 → EReal)
    (hk : ∀ l e, k (ix3 0 l e) = H.k l e) (hv : ∀ l e, v (ix3 0 l e) = H.v l e) (hwe : ∀ l, we (ix3 0 l 0) = H.wend l)
    (hdc : dc (ix3 0 0 0) = H.keep) (hC : ∀ i j, C (ix4 0 0 i j) = C' i j) (x : S1x1x256x256.Idx) (i j : Fin 256)
    (hi : (i : ℕ) = x 2) (hj : (j : ℕ) = x 3) :
    headC (F := Ideal) k v we dc C x = H.nextC C' i j := by
  obtain rfl : x = ix4 0 0 i j := by
    idx_vars x
    obtain rfl := Fin.ext hi
    obtain rfl := Fin.ext hj
    blk_ext
  refine (headC_at k k v (fun _ => 0) (fun _ => 0) we we we we dc C i j).trans ?_
  simp only [Head.nextC, headOf, hk, hv, hwe, hdc, hC]

/-- A stored vector state at an index, its operands named by a head's data. -/
theorem headN_eq (k : FVec Ideal S1x256x256 .bf16) (we : FVec Ideal S1x256x1 .f32) (dc : FVec Ideal S1x1x1 .f32)
    (n : FVec Ideal S1x1x1x256 .f32) (H : Head) (n' : Fin 256 → EReal)
    (hk : ∀ l e, k (ix3 0 l e) = H.k l e) (hwe : ∀ l, we (ix3 0 l 0) = H.wend l)
    (hdc : dc (ix3 0 0 0) = H.keep) (hn : ∀ j, n (ix4 0 0 0 j) = n' j) (x : S1x1x1x256.Idx) (j : Fin 256)
    (hj : (j : ℕ) = x 3) :
    headN (F := Ideal) k we dc n x = H.nextN n' j := by
  obtain rfl : x = ix4 0 0 0 j := by
    idx_vars x
    obtain rfl := Fin.ext hj
    blk_ext
  refine (headN_at k k k (fun _ => 0) (fun _ => 0) we we we we dc n j).trans ?_
  simp only [Head.nextN, headOf, hk, hwe, hdc, hn]

/-- A stored output at an index, its operands named by a head's data. -/
theorem headY_eq (q k v : FVec Ideal S1x256x256 .bf16) (og : FVec Ideal S1x256x256 .f32) (a : FVec Ideal S1x1x256 .f32)
    (m wi ei : FVec Ideal S1x256x1 .f32) (C : FVec Ideal S1x1x256x256 .f32) (n : FVec Ideal S1x1x1x256 .f32)
    (H : Head) (C' : Fin 256 → Fin 256 → EReal) (n' : Fin 256 → EReal)
    (hq : ∀ l e, q (ix3 0 l e) = H.q l e) (hk : ∀ l e, k (ix3 0 l e) = H.k l e) (hv : ∀ l e, v (ix3 0 l e) = H.v l e)
    (ho : ∀ l e, og (ix3 0 l e) = H.og l e) (ha : ∀ l, a (ix3 0 0 l) = H.a l) (hm : ∀ l, m (ix3 0 l 0) = H.m l)
    (hwi : ∀ l, wi (ix3 0 l 0) = H.inter l) (hei : ∀ l, ei (ix3 0 l 0) = H.least l)
    (hC : ∀ i j, C (ix4 0 0 i j) = C' i j) (hn : ∀ j, n (ix4 0 0 0 j) = n' j) (x : S1x256x256.Idx) (l d : Fin 256)
    (hl : (l : ℕ) = x 1) (hd : (d : ℕ) = x 2) :
    headY (F := Ideal) q k v og a m wi ei C n x = H.outRecip C' n' l d := by
  obtain rfl : x = ix3 0 l d := by
    idx_vars x
    obtain rfl := Fin.ext hl
    obtain rfl := Fin.ext hd
    blk_ext
  refine (headY_at q k v og a m wi ei ei (fun _ => 0) C n l d).trans ?_
  simp only [Head.outRecip, Head.num, Head.bound, Head.den, Head.score, headOf, hq, hk, hv, ho, ha, hm, hwi, hei, hC, hn]

/-! What a load of the body reads of a block held whole, at an index. -/

section
variable {e : EltTy}

/-- One head's columns of one batch row. -/
theorem load_tile {r : Memref sig .tc .vmem S4x256x1024 e} (hr : r.IsWhole) (x : S4x256x1024.Idx → Elt Ideal e) {p o : ℕ}
    (inb : ∀ a : Fin 3, (![p, 0, o] : Fin 3 → ℕ) a + S1x256x256.size a ≤ S4x256x1024.size a) (P : Fin 4) (hP : (P : ℕ) = p) (l d : Fin 256)
    (O : Fin 1024) (hO : (O : ℕ) = o + d) :
    r.view.readAt (Elt Ideal) (Rect.unit (s := S4x256x1024) ![p, 0, o] S1x256x256.size inb).toLoadRect (hr.unread x) (ix3 0 l d)
      = x (ix3 P l O) := by
  rw [hr.readAt_unread]
  refine congrArg x (funext fun a => Fin.ext ?_)
  fin_cases a
  · show p + 1 * 0 = (P : ℕ); omega
  · show 0 + 1 * (l : ℕ) = (l : ℕ); omega
  · show o + 1 * (d : ℕ) = (O : ℕ); omega

/-- One row of gate weights. -/
theorem load_row {r : Memref sig .tc .vmem S4x8x256 e} (hr : r.IsWhole) (x : S4x8x256.Idx → Elt Ideal e) {p o : ℕ}
    (inb : ∀ a : Fin 3, (![p, o, 0] : Fin 3 → ℕ) a + S1x1x256.size a ≤ S4x8x256.size a) (P : Fin 4) (hP : (P : ℕ) = p) (l : Fin 256)
    (O : Fin 8) (hO : (O : ℕ) = o) :
    r.view.readAt (Elt Ideal) (Rect.unit (s := S4x8x256) ![p, o, 0] S1x1x256.size inb).toLoadRect (hr.unread x) (ix3 0 0 l)
      = x (ix3 P O l) := by
  rw [hr.readAt_unread]
  refine congrArg x (funext fun a => Fin.ext ?_)
  fin_cases a
  · show p + 1 * 0 = (P : ℕ); omega
  · show o + 1 * 0 = (O : ℕ); omega
  · show 0 + 1 * (l : ℕ) = (l : ℕ); omega

/-- One column of gate weights. -/
theorem load_col {r : Memref sig .tc .vmem S4x256x128 e} (hr : r.IsWhole) (x : S4x256x128.Idx → Elt Ideal e) {p o : ℕ}
    (inb : ∀ a : Fin 3, (![p, 0, o] : Fin 3 → ℕ) a + S1x256x1.size a ≤ S4x256x128.size a) (P : Fin 4) (hP : (P : ℕ) = p) (l : Fin 256)
    (O : Fin 128) (hO : (O : ℕ) = o) :
    r.view.readAt (Elt Ideal) (Rect.unit (s := S4x256x128) ![p, 0, o] S1x256x1.size inb).toLoadRect (hr.unread x) (ix3 0 l 0)
      = x (ix3 P l O) := by
  rw [hr.readAt_unread]
  refine congrArg x (funext fun a => Fin.ext ?_)
  fin_cases a
  · show p + 1 * 0 = (P : ℕ); omega
  · show 0 + 1 * (l : ℕ) = (l : ℕ); omega
  · show o + 1 * 0 = (O : ℕ); omega

/-- One gate weight of the chunk's first token. -/
theorem load_one {r : Memref sig .tc .vmem S4x256x128 e} (hr : r.IsWhole) (x : S4x256x128.Idx → Elt Ideal e) {p o : ℕ}
    (inb : ∀ a : Fin 3, (![p, 0, o] : Fin 3 → ℕ) a + S1x1x1.size a ≤ S4x256x128.size a) (P : Fin 4) (hP : (P : ℕ) = p)
    (O : Fin 128) (hO : (O : ℕ) = o) :
    r.view.readAt (Elt Ideal) (Rect.unit (s := S4x256x128) ![p, 0, o] S1x1x1.size inb).toLoadRect (hr.unread x) (ix3 0 0 0)
      = x (ix3 P 0 O) := by
  rw [hr.readAt_unread]
  refine congrArg x (funext fun a => Fin.ext ?_)
  fin_cases a
  · show p + 1 * 0 = (P : ℕ); omega
  · rfl
  · show o + 1 * 0 = (O : ℕ); omega

/-- One head's matrix state. -/
theorem load_mat {r : Memref sig .tc .vmem S4x4x256x256 e} (hr : r.IsWhole) (x : S4x4x256x256.Idx → Elt Ideal e) {p o : ℕ}
    (inb : ∀ a : Fin 4, (![p, o, 0, 0] : Fin 4 → ℕ) a + S1x1x256x256.size a ≤ S4x4x256x256.size a) (P O : Fin 4) (hP : (P : ℕ) = p)
    (hO : (O : ℕ) = o) (i j : Fin 256) :
    r.view.readAt (Elt Ideal) (Rect.unit (s := S4x4x256x256) ![p, o, 0, 0] S1x1x256x256.size inb).toLoadRect (hr.unread x) (ix4 0 0 i j)
      = x (ix4 P O i j) := by
  rw [hr.readAt_unread]
  refine congrArg x (funext fun a => Fin.ext ?_)
  fin_cases a
  · show p + 1 * 0 = (P : ℕ); omega
  · show o + 1 * 0 = (O : ℕ); omega
  · show 0 + 1 * (i : ℕ) = (i : ℕ); omega
  · show 0 + 1 * (j : ℕ) = (j : ℕ); omega

/-- One head's vector state. -/
theorem load_vec {r : Memref sig .tc .vmem S4x4x1x256 e} (hr : r.IsWhole) (x : S4x4x1x256.Idx → Elt Ideal e) {p o : ℕ}
    (inb : ∀ a : Fin 4, (![p, o, 0, 0] : Fin 4 → ℕ) a + S1x1x1x256.size a ≤ S4x4x1x256.size a) (P O : Fin 4) (hP : (P : ℕ) = p)
    (hO : (O : ℕ) = o) (j : Fin 256) :
    r.view.readAt (Elt Ideal) (Rect.unit (s := S4x4x1x256) ![p, o, 0, 0] S1x1x1x256.size inb).toLoadRect (hr.unread x) (ix4 0 0 0 j)
      = x (ix4 P O 0 j) := by
  rw [hr.readAt_unread]
  refine congrArg x (funext fun a => Fin.ext ?_)
  fin_cases a
  · show p + 1 * 0 = (P : ℕ); omega
  · show o + 1 * 0 = (O : ℕ); omega
  · rfl
  · show 0 + 1 * (j : ℕ) = (j : ℕ); omega

end

end Cert.Mlstm

end
-- ==== Proof.Mlstm.KerRead.lean ====
/- The kernel's blocks as parts of its arguments: the head a grid point works on is the recurrence's. -/
module

public import proofs.«01_k».proof.Proof.Gen.KernelIdeal.Value
public import proofs.«01_k».proof.Proof.Mlstm.BlockHead
public import proofs.«01_k».proof.Proof.Mlstm.Seq
public import Idealize.ShloMosaic.Lib.Pipeline.ValueKit

@[expose] public section

set_option maxRecDepth 16384

noncomputable section

namespace Cert.Mlstm.Ker

open Idealize.ShloMosaic Idealize.ShloMosaic.TcCoe Cert.KernelIdeal Cert.KernelIdeal.Gen

/-- The blocks' numbers at every point: the group of four sequences and the chunk. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![t.val / 8, 0, t.val % 8] ∧ win0_5.index t = ![t.val / 8, t.val % 8, 0]
    ∧ win0_6.index t = ![t.val / 8, t.val % 8, 0] ∧ win0_7.index t = ![t.val / 8, 0, 0, 0] ∧ win0_8.index t = ![t.val / 8, 0, 0, 0]
    ∧ t.val / 8 < 2 :=
  (by decide +kernel : ∀ t : Fin grid0.N, _)

variable (m : (ℓ : Loc nD τ sig) → Buf (Elt Ideal) ℓ) (c : Dev nD)

/-- The kernel's arguments, read by coordinates. -/
def inputs : Inputs where
  Q r e := (m ((c : Thread nD τ).loc main_arg0) : FVec Ideal S16384x1024 .bf16) (ix2 r e)
  K r e := (m ((c : Thread nD τ).loc main_arg1) : FVec Ideal S16384x1024 .bf16) (ix2 r e)
  V r e := (m ((c : Thread nD τ).loc main_arg2) : FVec Ideal S16384x1024 .bf16) (ix2 r e)
  O r e := (m ((c : Thread nD τ).loc main_arg3) : FVec Ideal S16384x1024 .f32) (ix2 r e)
  R b g r := (m ((c : Thread nD τ).loc main_arg4) : FVec Ideal S8x8x2048 .f32) (ix3 b g r)
  W b r g := (m ((c : Thread nD τ).loc main_arg5) : FVec Ideal S8x2048x128 .f32) (ix3 b r g)

/-- The chunk of a point. -/
def chunk (t : Fin cfg0.N) : Fin 8 := ⟨t.val % 8, by omega⟩

/-- Sequence `p` of a point's group. -/
def seq (t : Fin cfg0.N) (p : Fin 4) : Fin 8 := ⟨4 * (t.val / 8) + p, by have := (idx t).2.2.2.2.2.2.2.2.2; omega⟩

/-- The block of queries at a point. -/
theorem win0_at (t : Fin cfg0.N) (p : Fin 4) (l : Fin 256) (h : Fin 4) (e : Fin 256) :
    (iblk m c 0 t : FVec Ideal S4x256x1024 .bf16) (ix3 p l ⟨256 * (h : ℕ) + e, by omega⟩)
      = (inputs m c).Q (row (seq t p) (chunk t) l) (lane h e) := by
  have := (idx t).2.2.2.2.2.2.2.2.2
  unfold inputs row lane seq chunk
  dsimp only
  blk_simp [iblk, idx t]
  entry_read
  pointwise
  blk_ext [idx t]

/-- The block of keys at a point. -/
theorem win1_at (t : Fin cfg0.N) (p : Fin 4) (l : Fin 256) (h : Fin 4) (e : Fin 256) :
    (iblk m c 1 t : FVec Ideal S4x256x1024 .bf16) (ix3 p l ⟨256 * (h : ℕ) + e, by omega⟩)
      = (inputs m c).K (row (seq t p) (chunk t) l) (lane h e) := by
  have := (idx t).2.2.2.2.2.2.2.2.2
  unfold inputs row lane seq chunk
  dsimp only
  blk_simp [iblk, idx t]
  entry_read
  pointwise
  blk_ext [idx t]

/-- The block of values at a point. -/
theorem win2_at (t : Fin cfg0.N) (p : Fin 4) (l : Fin 256) (h : Fin 4) (e : Fin 256) :
    (iblk m c 2 t : FVec Ideal S4x256x1024 .bf16) (ix3 p l ⟨256 * (h : ℕ) + e, by omega⟩)
      = (inputs m c).V (row (seq t p) (chunk t) l) (lane h e) := by
  have := (idx t).2.2.2.2.2.2.2.2.2
  unfold inputs row lane seq chunk
  dsimp only
  blk_simp [iblk, idx t]
  entry_read
  pointwise
  blk_ext [idx t]

/-- The block of output gates at a point. -/
theorem win3_at (t : Fin cfg0.N) (p : Fin 4) (l : Fin 256) (h : Fin 4) (e : Fin 256) :
    (iblk m c 3 t : FVec Ideal S4x256x1024 .f32) (ix3 p l ⟨256 * (h : ℕ) + e, by omega⟩)
      = (inputs m c).O (row (seq t p) (chunk t) l) (lane h e) := by
  have := (idx t).2.2.2.2.2.2.2.2.2
  unfold inputs row lane seq chunk
  dsimp only
  blk_simp [iblk, idx t]
  entry_read
  pointwise
  blk_ext [idx t]

/-- The block of the weights by chunk position at a point. -/
theorem win4_at (t : Fin cfg0.N) (p : Fin 4) (l : Fin 256) (g : Fin 8) :
    (iblk m c 4 t : FVec Ideal S4x8x256 .f32) (ix3 p g l) = (inputs m c).R (seq t p) g (tok (chunk t) l) := by
  have := (idx t).2.2.2.2.2.2.2.2.2
  unfold inputs tok seq chunk
  dsimp only
  blk_point [iblk, V, idx t]

/-- The block of the weights by token at a point. -/
theorem win5_at (t : Fin cfg0.N) (p : Fin 4) (l : Fin 256) (g : Fin 128) :
    (iblk m c 5 t : FVec Ideal S4x256x128 .f32) (ix3 p l g) = (inputs m c).W (seq t p) (tok (chunk t) l) g := by
  have := (idx t).2.2.2.2.2.2.2.2.2
  unfold inputs tok seq chunk
  dsimp only
  blk_point [iblk, V, idx t]

/-- The head a grid point works on. -/
theorem head_at (t : Fin cfg0.N) (p h : Fin 4) :
    blkHead (iblk m c 0 t) (iblk m c 1 t) (iblk m c 2 t) (iblk m c 3 t) (iblk m c 4 t) (iblk m c 5 t) p h
      = (inputs m c).head (chunk t) (seq t p) h := by
  unfold blkHead Inputs.head
  congr 1
  · funext l e; exact win0_at m c t p l h e
  · funext l e; exact win1_at m c t p l h e
  · funext l e; exact win2_at m c t p l h e
  · funext l e; exact win3_at m c t p l h e
  · funext l; exact win4_at m c t p l _
  · funext l; exact win5_at m c t p l _
  · funext l; exact win5_at m c t p l _
  · funext l; exact win5_at m c t p l _
  · funext l; exact win5_at m c t p l _
  · exact win5_at m c t p 0 _

end Cert.Mlstm.Ker

end
-- ==== Proof.Mlstm.BlockLoad.lean ====
/- The three values a head stores, its operands the body's loads of the blocks a grid point reads. -/
module

public import proofs.«01_k».proof.Proof.Mlstm.BlockHead

@[expose] public section

set_option maxRecDepth 16384

noncomputable section

namespace Cert.Mlstm

open Idealize.ShloMosaic Idealize.ShloMosaic.TcCoe Cert.KernelIdeal Cert.KernelIdeal.Gen

/-- The load of a head's tile of one of the four large blocks. -/
abbrev ldT {e : EltTy} {r : Memref sig .tc .vmem S4x256x1024 e} (hr : r.IsWhole) (x : S4x256x1024.Idx → Elt Ideal e) (p o : ℕ)
    (inb : ∀ a : Fin 3, (![p, 0, o] : Fin 3 → ℕ) a + S1x256x256.size a ≤ S4x256x1024.size a) :=
  r.view.readAt (Elt Ideal) (Rect.unit (s := S4x256x1024) ![p, 0, o] S1x256x256.size inb).toLoadRect (hr.unread x)

/-- The load of a head's column of gate weights. -/
abbrev ldW {e : EltTy} {r : Memref sig .tc .vmem S4x256x128 e} (hr : r.IsWhole) (x : S4x256x128.Idx → Elt Ideal e) (p o : ℕ)
    (inb : ∀ a : Fin 3, (![p, 0, o] : Fin 3 → ℕ) a + S1x256x1.size a ≤ S4x256x128.size a) :=
  r.view.readAt (Elt Ideal) (Rect.unit (s := S4x256x128) ![p, 0, o] S1x256x1.size inb).toLoadRect (hr.unread x)

/-- The load of a head's decay over the chunk. -/
abbrev ldD {e : EltTy} {r : Memref sig .tc .vmem S4x256x128 e} (hr : r.IsWhole) (x : S4x256x128.Idx → Elt Ideal e) (p o : ℕ)
    (inb : ∀ a : Fin 3, (![p, 0, o] : Fin 3 → ℕ) a + S1x1x1.size a ≤ S4x256x128.size a) :=
  r.view.readAt (Elt Ideal) (Rect.unit (s := S4x256x128) ![p, 0, o] S1x1x1.size inb).toLoadRect (hr.unread x)

/-- The load of a head's row of gate weights. -/
abbrev ldR {e : EltTy} {r : Memref sig .tc .vmem S4x8x256 e} (hr : r.IsWhole) (x : S4x8x256.Idx → Elt Ideal e) (p o : ℕ)
    (inb : ∀ a : Fin 3, (![p, o, 0] : Fin 3 → ℕ) a + S1x1x256.size a ≤ S4x8x256.size a) :=
  r.view.readAt (Elt Ideal) (Rect.unit (s := S4x8x256) ![p, o, 0] S1x1x256.size inb).toLoadRect (hr.unread x)

section
variable {r0 r1 r2 : Memref sig .tc .vmem S4x256x1024 .bf16} (h0 : r0.IsWhole) (h1 : r1.IsWhole) (h2 : r2.IsWhole)
  {r3 : Memref sig .tc .vmem S4x256x1024 .f32} (h3 : r3.IsWhole) {r4 : Memref sig .tc .vmem S4x8x256 .f32} (h4 : r4.IsWhole)
  {r5 : Memref sig .tc .vmem S4x256x128 .f32} (h5 : r5.IsWhole)
  (x0 x1 x2 : S4x256x1024.Idx → EReal) (x3 : S4x256x1024.Idx → EReal) (x4 : S4x8x256.Idx → EReal)
  (x5 : S4x256x128.Idx → EReal) (p h : Fin 4) {b oT oA oM oI oL oE oK : ℕ}

/-- The stored matrix state, over the loads and whatever state was read. -/
theorem headC_load (inbK inbV inbE inbD) (C : FVec Ideal S1x1x256x256 .f32) (C' : Fin 256 → Fin 256 → EReal)
    (e : (p : ℕ) = b ∧ 256 * (h : ℕ) = oT ∧ 12 + (h : ℕ) = oE ∧ 16 + (h : ℕ) = oK) (hC : ∀ i j, C (ix4 0 0 i j) = C' i j)
    (x : S1x1x256x256.Idx) (i j : Fin 256) (hi : (i : ℕ) = x 2) (hj : (j : ℕ) = x 3) :
    headC (F := Ideal) (ldT (e := .bf16) h1 x1 b oT inbK) (ldT (e := .bf16) h2 x2 b oT inbV) (ldW (e := .f32) h5 x5 b oE inbE)
      (ldD (e := .f32) h5 x5 b oK inbD) C x = (blkHead x0 x1 x2 x3 x4 x5 p h).nextC C' i j := by
  obtain ⟨e1, e2, e3, e4⟩ := e
  refine headC_eq _ _ _ _ _ _ _ ?_ ?_ ?_ ?_ hC x _ _ hi hj
  · exact fun l d => load_tile _ _ _ _ e1 _ _ _ (by dsimp only; omega)
  · exact fun l d => load_tile _ _ _ _ e1 _ _ _ (by dsimp only; omega)
  · exact fun l => load_col _ _ _ _ e1 _ _ (by dsimp only; omega)
  · exact load_one _ _ _ _ e1 _ (by dsimp only; omega)

/-- The stored vector state, over the loads and whatever state was read. -/
theorem headN_load (inbK inbE inbD) (n : FVec Ideal S1x1x1x256 .f32) (n' : Fin 256 → EReal)
    (e : (p : ℕ) = b ∧ 256 * (h : ℕ) = oT ∧ 12 + (h : ℕ) = oE ∧ 16 + (h : ℕ) = oK) (hn : ∀ j, n (ix4 0 0 0 j) = n' j)
    (x : S1x1x1x256.Idx) (j : Fin 256) (hj : (j : ℕ) = x 3) :
    headN (F := Ideal) (ldT (e := .bf16) h1 x1 b oT inbK) (ldW (e := .f32) h5 x5 b oE inbE) (ldD (e := .f32) h5 x5 b oK inbD) n x
      = (blkHead x0 x1 x2 x3 x4 x5 p h).nextN n' j := by
  obtain ⟨e1, e2, e3, e4⟩ := e
  refine headN_eq _ _ _ _ _ _ ?_ ?_ ?_ hn x _ hj
  · exact fun l d => load_tile _ _ _ _ e1 _ _ _ (by dsimp only; omega)
  · exact fun l => load_col _ _ _ _ e1 _ _ (by dsimp only; omega)
  · exact load_one _ _ _ _ e1 _ (by dsimp only; omega)

/-- The stored output, over the loads and whatever states were read. -/
theorem headY_load (inbQ inbK inbV inbO inbA inbM inbI inbL) (C : FVec Ideal S1x1x256x256 .f32) (n : FVec Ideal S1x1x1x256 .f32)
    (C' : Fin 256 → Fin 256 → EReal) (n' : Fin 256 → EReal)
    (e : (p : ℕ) = b ∧ 256 * (h : ℕ) = oT ∧ (h : ℕ) = oA ∧ (h : ℕ) = oM ∧ 4 + (h : ℕ) = oI ∧ 8 + (h : ℕ) = oL)
    (hC : ∀ i j, C (ix4 0 0 i j) = C' i j) (hn : ∀ j, n (ix4 0 0 0 j) = n' j)
    (x : S1x256x256.Idx) (l d : Fin 256) (hl : (l : ℕ) = x 1) (hd : (d : ℕ) = x 2) :
    headY (F := Ideal) (ldT (e := .bf16) h0 x0 b oT inbQ) (ldT (e := .bf16) h1 x1 b oT inbK) (ldT (e := .bf16) h2 x2 b oT inbV)
      (ldT (e := .f32) h3 x3 b oT inbO) (ldR (e := .f32) h4 x4 b oA inbA) (ldW (e := .f32) h5 x5 b oM inbM)
      (ldW (e := .f32) h5 x5 b oI inbI) (ldW (e := .f32) h5 x5 b oL inbL) C n x
      = (blkHead x0 x1 x2 x3 x4 x5 p h).outRecip C' n' l d := by
  obtain ⟨e1, e2, e3, e4, e5, e6⟩ := e
  refine headY_eq _ _ _ _ _ _ _ _ _ _ _ _ _ ?_ ?_ ?_ ?_ ?_ ?_ ?_ ?_ hC hn x _ _ hl hd
  · exact fun l d => load_tile _ _ _ _ e1 _ _ _ (by dsimp only; omega)
  · exact fun l d => load_tile _ _ _ _ e1 _ _ _ (by dsimp only; omega)
  · exact fun l d => load_tile _ _ _ _ e1 _ _ _ (by dsimp only; omega)
  · exact fun l d => load_tile _ _ _ _ e1 _ _ _ (by dsimp only; omega)
  · exact fun l => load_row _ _ _ _ e1 _ _ (by dsimp only; omega)
  · exact fun l => load_col _ _ _ _ e1 _ _ (by dsimp only; omega)
  · exact fun l => load_col _ _ _ _ e1 _ _ (by dsimp only; omega)
  · exact fun l => load_col _ _ _ _ e1 _ _ (by dsimp only; omega)
end

end Cert.Mlstm

end
-- ==== Proof.Mlstm.ZeroA.lean ====
/- At the first chunk of a group the kernel zeroes both states, and a head's state is zero until that head stores. -/
module

public import proofs.«01_k».proof.Proof.Gen.KernelIdeal.Value
public import proofs.«01_k».proof.Proof.Mlstm.BlockLoad

@[expose] public section

set_option maxRecDepth 16384

noncomputable section

namespace Cert.Mlstm

open Idealize.ShloMosaic Idealize.ShloMosaic.TcCoe Cert.KernelIdeal Cert.KernelIdeal.Gen Cert.KernelIdeal.Gen.kernelRun0_A.sl

/-- At an index some later write covers, the first write does not show. -/
theorem canon_dropLast {s : Shape} {e : EltTy} (L : List (View.Piece (Elt Ideal) s e)) (y : s.Idx)
    (h : ∃ p ∈ L.dropLast, y ∈ p.1.set) : View.canon L y = View.canon L.dropLast y := by
  induction L with
  | nil => rfl
  | cons p L ih =>
    cases L with
    | nil => obtain ⟨q, hq, _⟩ := h; exact absurd hq List.not_mem_nil
    | cons q L =>
      rw [List.dropLast_cons₂] at h ⊢
      by_cases hm : y ∈ p.1.set
      · obtain ⟨x, rfl⟩ := p.1.exists_idx_of_mem hm
        rw [View.canon_cons, View.canon_cons]
        exact (p.1.overlay_emb _ _ x).trans (p.1.overlay_emb _ _ x).symm
      · rw [View.canon_cons_of_not_mem _ _ hm, View.canon_cons_of_not_mem _ _ hm]
        obtain ⟨r, hr, hy⟩ := h
        rcases List.mem_cons.1 hr with rfl | hr
        · exact absurd hy hm
        · exact ih ⟨r, hr, hy⟩

/-- The writes `L` leave every tile of the matrix state from number `k` on at zero. -/
def ZeroC (k : ℕ) (L : List (View.Piece (Elt Ideal) S4x4x256x256 .f32)) : Prop :=
  ∀ y : S4x4x256x256.Idx, k ≤ 4 * (y 0 : ℕ) + (y 1 : ℕ) → View.canon L y = (0 : EReal)

theorem ZeroC.cons {k : ℕ} {L : List (View.Piece (Elt Ideal) S4x4x256x256 .f32)} (hL : ZeroC k L) (p h : ℕ)
    (e : k = 4 * p + h) (inb : ∀ a : Fin 4, (![p, h, 0, 0] : Fin 4 → ℕ) a + S1x1x256x256.size a ≤ S4x4x256x256.size a)
    (w : S1x1x256x256.Idx → EReal) :
    ZeroC (k + 1) (⟨Rect.unit ![p, h, 0, 0] S1x1x256x256.size inb, w⟩ :: L) := by
  intro y hy
  rw [View.canon_cons_of_not_mem]
  · exact hL y (by omega)
  · intro hm
    obtain ⟨x, rfl⟩ := (Rect.unit (s := S4x4x256x256) ![p, h, 0, 0] S1x1x256x256.size inb).exists_idx_of_mem hm
    have h0 : (x 0 : ℕ) < 1 := (x 0).isLt
    have h1 : (x 1 : ℕ) < 1 := (x 1).isLt
    have e0 : (((Rect.unit (s := S4x4x256x256) ![p, h, 0, 0] S1x1x256x256.size inb).idx x 0 : Fin 4) : ℕ) = p + 1 * (x 0 : ℕ) := rfl
    have e1 : (((Rect.unit (s := S4x4x256x256) ![p, h, 0, 0] S1x1x256x256.size inb).idx x 1 : Fin 4) : ℕ) = h + 1 * (x 1 : ℕ) := rfl
    omega

theorem ZeroC.read {L : List (View.Piece (Elt Ideal) S4x4x256x256 .f32)} (v : View sig .tc .vmem S4x4x256x256 .f32)
    (p h : ℕ) (hL : ∃ k, k ≤ 4 * p + h ∧ ZeroC k L) (inb : ∀ a : Fin 4, (![p, h, 0, 0] : Fin 4 → ℕ) a + S1x1x256x256.size a ≤ S4x4x256x256.size a)
    (i j : Fin 256) :
    v.readCov L (Rect.unit (s := S4x4x256x256) ![p, h, 0, 0] S1x1x256x256.size inb).toLoadRect (ix4 0 0 i j) = (0 : EReal) := by
  obtain ⟨k, e, hL⟩ := hL
  rw [View.readCov_eq_canon']
  refine hL _ ?_
  show k ≤ 4 * (p + 1 * 0) + (h + 1 * 0)
  omega

/-- The writes `L` leave every row of the vector state from number `k` on at zero. -/
def ZeroN (k : ℕ) (L : List (View.Piece (Elt Ideal) S4x4x1x256 .f32)) : Prop :=
  ∀ y : S4x4x1x256.Idx, k ≤ 4 * (y 0 : ℕ) + (y 1 : ℕ) → View.canon L y = (0 : EReal)

theorem ZeroN.cons {k : ℕ} {L : List (View.Piece (Elt Ideal) S4x4x1x256 .f32)} (hL : ZeroN k L) (p h : ℕ)
    (e : k = 4 * p + h) (inb : ∀ a : Fin 4, (![p, h, 0, 0] : Fin 4 → ℕ) a + S1x1x1x256.size a ≤ S4x4x1x256.size a)
    (w : S1x1x1x256.Idx → EReal) :
    ZeroN (k + 1) (⟨Rect.unit ![p, h, 0, 0] S1x1x1x256.size inb, w⟩ :: L) := by
  intro y hy
  rw [View.canon_cons_of_not_mem]
  · exact hL y (by omega)
  · intro hm
    obtain ⟨x, rfl⟩ := (Rect.unit (s := S4x4x1x256) ![p, h, 0, 0] S1x1x1x256.size inb).exists_idx_of_mem hm
    have h0 : (x 0 : ℕ) < 1 := (x 0).isLt
    have h1 : (x 1 : ℕ) < 1 := (x 1).isLt
    have e0 : (((Rect.unit (s := S4x4x1x256) ![p, h, 0, 0] S1x1x1x256.size inb).idx x 0 : Fin 4) : ℕ) = p + 1 * (x 0 : ℕ) := rfl
    have e1 : (((Rect.unit (s := S4x4x1x256) ![p, h, 0, 0] S1x1x1x256.size inb).idx x 1 : Fin 4) : ℕ) = h + 1 * (x 1 : ℕ) := rfl
    omega

theorem ZeroN.read {L : List (View.Piece (Elt Ideal) S4x4x1x256 .f32)} (v : View sig .tc .vmem S4x4x1x256 .f32)
    (p h : ℕ) (hL : ∃ k, k ≤ 4 * p + h ∧ ZeroN k L) (inb : ∀ a : Fin 4, (![p, h, 0, 0] : Fin 4 → ℕ) a + S1x1x1x256.size a ≤ S4x4x1x256.size a)
    (j : Fin 256) :
    v.readCov L (Rect.unit (s := S4x4x1x256) ![p, h, 0, 0] S1x1x1x256.size inb).toLoadRect (ix4 0 0 0 j) = (0 : EReal) := by
  obtain ⟨k, e, hL⟩ := hL
  rw [View.readCov_eq_canon']
  refine hL _ ?_
  show k ≤ 4 * (p + 1 * 0) + (h + 1 * 0)
  omega

section
variable (c : Dev nD) (a2 a3 : Memref sig .tc .vmem S4x256x1024 .bf16) (h2 : a2.IsWhole) (h3 : a3.IsWhole)
  (a6 : Memref sig .tc .vmem S4x256x128 .f32) (h6 : a6.IsWhole) (a8 : Memref sig .tc .vmem S4x4x256x256 .f32)
  (a9 : Memref sig .tc .vmem S4x4x1x256 .f32)
  (x1 x2 : Vec Ideal S4x256x1024 .bf16) (x5 : Vec Ideal S4x256x128 .f32)

theorem zeroC1 : ZeroC 0 (kernelRun0_A.sl.H7_1 (F := Ideal)) := by
  intro y _
  unfold kernelRun0_A.sl.H7_1
  rw [View.canon_unit_zero (by decide)]
  pointwise [k0_pay2]

theorem zeroN1 : ZeroN 0 (kernelRun0_A.sl.H8_1 (F := Ideal)) := by
  intro y _
  unfold kernelRun0_A.sl.H8_1
  rw [View.canon_unit_zero (by decide)]
  pointwise [k0_pay3]

theorem zeroC2 : ZeroC 1 (kernelRun0_A.sl.H7_2 c a2 h2 a3 h3 a6 h6 a8 x1 x2 x5) := zeroC1.cons 0 0 rfl _ _
theorem zeroC3 : ZeroC 2 (kernelRun0_A.sl.H7_3 c a2 h2 a3 h3 a6 h6 a8 x1 x2 x5) := (zeroC2 c a2 a3 h2 h3 a6 h6 a8 x1 x2 x5).cons 0 1 rfl _ _
theorem zeroC4 : ZeroC 3 (kernelRun0_A.sl.H7_4 c a2 h2 a3 h3 a6 h6 a8 x1 x2 x5) := (zeroC3 c a2 a3 h2 h3 a6 h6 a8 x1 x2 x5).cons 0 2 rfl _ _
theorem zeroC5 : ZeroC 4 (kernelRun0_A.sl.H7_5 c a2 h2 a3 h3 a6 h6 a8 x1 x2 x5) := (zeroC4 c a2 a3 h2 h3 a6 h6 a8 x1 x2 x5).cons 0 3 rfl _ _
theorem zeroC6 : ZeroC 5 (kernelRun0_A.sl.H7_6 c a2 h2 a3 h3 a6 h6 a8 x1 x2 x5) := (zeroC5 c a2 a3 h2 h3 a6 h6 a8 x1 x2 x5).cons 1 0 rfl _ _
theorem zeroC7 : ZeroC 6 (kernelRun0_A.sl.H7_7 c a2 h2 a3 h3 a6 h6 a8 x1 x2 x5) := (zeroC6 c a2 a3 h2 h3 a6 h6 a8 x1 x2 x5).cons 1 1 rfl _ _
theorem zeroC8 : ZeroC 7 (kernelRun0_A.sl.H7_8 c a2 h2 a3 h3 a6 h6 a8 x1 x2 x5) := (zeroC7 c a2 a3 h2 h3 a6 h6 a8 x1 x2 x5).cons 1 2 rfl _ _
theorem zeroC9 : ZeroC 8 (kernelRun0_A.sl.H7_9 c a2 h2 a3 h3 a6 h6 a8 x1 x2 x5) := (zeroC8 c a2 a3 h2 h3 a6 h6 a8 x1 x2 x5).cons 1 3 rfl _ _
theorem zeroC10 : ZeroC 9 (kernelRun0_A.sl.H7_10 c a2 h2 a3 h3 a6 h6 a8 x1 x2 x5) := (zeroC9 c a2 a3 h2 h3 a6 h6 a8 x1 x2 x5).cons 2 0 rfl _ _
theorem zeroC11 : ZeroC 10 (kernelRun0_A.sl.H7_11 c a2 h2 a3 h3 a6 h6 a8 x1 x2 x5) := (zeroC10 c a2 a3 h2 h3 a6 h6 a8 x1 x2 x5).cons 2 1 rfl _ _
theorem zeroC12 : ZeroC 11 (kernelRun0_A.sl.H7_12 c a2 h2 a3 h3 a6 h6 a8 x1 x2 x5) := (zeroC11 c a2 a3 h2 h3 a6 h6 a8 x1 x2 x5).cons 2 2 rfl _ _
theorem zeroC13 : ZeroC 12 (kernelRun0_A.sl.H7_13 c a2 h2 a3 h3 a6 h6 a8 x1 x2 x5) := (zeroC12 c a2 a3 h2 h3 a6 h6 a8 x1 x2 x5).cons 2 3 rfl _ _
theorem zeroC14 : ZeroC 13 (kernelRun0_A.sl.H7_14 c a2 h2 a3 h3 a6 h6 a8 x1 x2 x5) := (zeroC13 c a2 a3 h2 h3 a6 h6 a8 x1 x2 x5).cons 3 0 rfl _ _
theorem zeroC15 : ZeroC 14 (kernelRun0_A.sl.H7_15 c a2 h2 a3 h3 a6 h6 a8 x1 x2 x5) := (zeroC14 c a2 a3 h2 h3 a6 h6 a8 x1 x2 x5).cons 3 1 rfl _ _
theorem zeroC16 : ZeroC 15 (kernelRun0_A.sl.H7_16 c a2 h2 a3 h3 a6 h6 a8 x1 x2 x5) := (zeroC15 c a2 a3 h2 h3 a6 h6 a8 x1 x2 x5).cons 3 2 rfl _ _

theorem zeroN2 : ZeroN 1 (kernelRun0_A.sl.H8_2 c a2 h2 a6 h6 a9 x1 x5) := zeroN1.cons 0 0 rfl _ _
theorem zeroN3 : ZeroN 2 (kernelRun0_A.sl.H8_3 c a2 h2 a6 h6 a9 x1 x5) := (zeroN2 c a2 h2 a6 h6 a9 x1 x5).cons 0 1 rfl _ _
theorem zeroN4 : ZeroN 3 (kernelRun0_A.sl.H8_4 c a2 h2 a6 h6 a9 x1 x5) := (zeroN3 c a2 h2 a6 h6 a9 x1 x5).cons 0 2 rfl _ _
theorem zeroN5 : ZeroN 4 (kernelRun0_A.sl.H8_5 c a2 h2 a6 h6 a9 x1 x5) := (zeroN4 c a2 h2 a6 h6 a9 x1 x5).cons 0 3 rfl _ _
theorem zeroN6 : ZeroN 5 (kernelRun0_A.sl.H8_6 c a2 h2 a6 h6 a9 x1 x5) := (zeroN5 c a2 h2 a6 h6 a9 x1 x5).cons 1 0 rfl _ _
theorem zeroN7 : ZeroN 6 (kernelRun0_A.sl.H8_7 c a2 h2 a6 h6 a9 x1 x5) := (zeroN6 c a2 h2 a6 h6 a9 x1 x5).cons 1 1 rfl _ _
theorem zeroN8 : ZeroN 7 (kernelRun0_A.sl.H8_8 c a2 h2 a6 h6 a9 x1 x5) := (zeroN7 c a2 h2 a6 h6 a9 x1 x5).cons 1 2 rfl _ _
theorem zeroN9 : ZeroN 8 (kernelRun0_A.sl.H8_9 c a2 h2 a6 h6 a9 x1 x5) := (zeroN8 c a2 h2 a6 h6 a9 x1 x5).cons 1 3 rfl _ _
theorem zeroN10 : ZeroN 9 (kernelRun0_A.sl.H8_10 c a2 h2 a6 h6 a9 x1 x5) := (zeroN9 c a2 h2 a6 h6 a9 x1 x5).cons 2 0 rfl _ _
theorem zeroN11 : ZeroN 10 (kernelRun0_A.sl.H8_11 c a2 h2 a6 h6 a9 x1 x5) := (zeroN10 c a2 h2 a6 h6 a9 x1 x5).cons 2 1 rfl _ _
theorem zeroN12 : ZeroN 11 (kernelRun0_A.sl.H8_12 c a2 h2 a6 h6 a9 x1 x5) := (zeroN11 c a2 h2 a6 h6 a9 x1 x5).cons 2 2 rfl _ _
theorem zeroN13 : ZeroN 12 (kernelRun0_A.sl.H8_13 c a2 h2 a6 h6 a9 x1 x5) := (zeroN12 c a2 h2 a6 h6 a9 x1 x5).cons 2 3 rfl _ _
theorem zeroN14 : ZeroN 13 (kernelRun0_A.sl.H8_14 c a2 h2 a6 h6 a9 x1 x5) := (zeroN13 c a2 h2 a6 h6 a9 x1 x5).cons 3 0 rfl _ _
theorem zeroN15 : ZeroN 14 (kernelRun0_A.sl.H8_15 c a2 h2 a6 h6 a9 x1 x5) := (zeroN14 c a2 h2 a6 h6 a9 x1 x5).cons 3 1 rfl _ _
theorem zeroN16 : ZeroN 15 (kernelRun0_A.sl.H8_16 c a2 h2 a6 h6 a9 x1 x5) := (zeroN15 c a2 h2 a6 h6 a9 x1 x5).cons 3 2 rfl _ _
end

end Cert.Mlstm

end
-- ==== Proof.Mlstm.BlockCA.lean ====
/- What the kernel's body leaves in its block of the matrix state at the first chunk of a group, where it zeroes both states first. -/
module

public import proofs.«01_k».proof.Proof.Gen.KernelIdeal.Value
public import proofs.«01_k».proof.Proof.Mlstm.ZeroA

@[expose] public section

set_option maxRecDepth 16384

noncomputable section

namespace Cert.Mlstm

open Idealize.ShloMosaic Idealize.ShloMosaic.TcCoe Cert.KernelIdeal Cert.KernelIdeal.Gen Cert.KernelIdeal.Gen.kernelRun0_A.sl

variable (m : (ℓ : Loc nD τ sig) → Buf (Elt Ideal) ℓ)

set_option maxHeartbeats 2000000 in
/-- The matrix state after a group's first chunk. -/
theorem outC_A (c : Dev nD) (t : Fin cfg0.N) (h0 : t.val % 8 = 0) (p h : Fin 4) (i j : Fin 256) :
    (outsAt0 m c t.val t.isLt).2.1 (ix4 p h i j)
      = (blkHead (iblk m c 0 t) (iblk m c 1 t) (iblk m c 2 t) (iblk m c 3 t) (iblk m c 4 t) (iblk m c 5 t) p h).nextC (fun _ _ => 0) i j := by
  rw [outsAt0_A m c t h0]
  unfold out0_A_7
  dsimp only
  rw [View.read_writes_junk_eq_canon]
  unfold kernelRun0_A
  dsimp only
  unfold kernelRun0_A.sl.H7_16 kernelRun0_A.sl.H7_15 kernelRun0_A.sl.H7_14 kernelRun0_A.sl.H7_13 kernelRun0_A.sl.H7_12 kernelRun0_A.sl.H7_11 kernelRun0_A.sl.H7_10 kernelRun0_A.sl.H7_9 kernelRun0_A.sl.H7_8
    kernelRun0_A.sl.H7_7 kernelRun0_A.sl.H7_6 kernelRun0_A.sl.H7_5 kernelRun0_A.sl.H7_4 kernelRun0_A.sl.H7_3 kernelRun0_A.sl.H7_2 kernelRun0_A.sl.H7_1
  refine (canon_dropLast _ _ ?cover).trans ?_
  case cover =>
    dsimp only [List.dropLast]
    exact View.cover_of_tiled_head _ _ _ (by rfl) _
  dsimp only [List.dropLast]
  have key := @headC_load
  simp only [ldT, ldW, ldD, ldR, headC, k0_pay19, k0_pay6, k0_pay7, k0_pay11, k0_pay12, k0_pay14] at key
  canon_tiles x hh
  all_goals
    have hp : (p : ℕ) = _ := hh0
    have hq : (h : ℕ) = _ := hh1
    dsimp only [
      r, r_1, r_2, r_3, r_4, r_5, r_6, r_7, r_8, r_9, r_10, r_11, r_12, r_13, r_14, r_15, r_16, r_17, r_18, r_19, r_20, r_21,
      r_22, r_23, r_24, r_25, r_26, r_27, r_28, r_29, r_30, r_31, r_32, r_33, r_34, r_35, r_36, r_37, r_38, r_39, r_40, r_41,
      r_42, r_43, r_44, r_45, r_46, r_47, r_48, r_49, r_50, r_51, r_52, r_53, r_54, r_55, r_56, r_57, r_58, r_59, r_60, r_61,
      r_62, r_63, r_64, r_65, r_66, r_67, r_68, r_69, r_70, r_71, r_72, r_73, r_74, r_75, r_76, r_77, r_78, r_79, r_80, r_81,
      r_82, r_83, r_84, r_85, r_86, r_87, r_88, r_89, r_90, r_91, r_92, r_93, r_94, r_95, r_96, r_97, r_98, r_99, r_100, r_101,
      r_102, r_103, r_104, r_105, r_106, r_107, r_108, r_109, r_110, r_111, r_112, r_113, r_114, r_115, r_116, r_117, r_118,
      r_119, r_120, r_121, r_122, r_123, r_124, r_125, r_126, r_127, r_128, r_129, r_130, r_131, r_132, r_133, r_134, r_135,
      r_136, r_137, r_138, r_139, r_140, r_141, r_142, r_143, r_144, r_145, r_146, r_147, r_148, r_149, r_150, r_151, r_152,
      r_153, r_154, r_155, r_156, r_157, r_158, r_159, r_160, r_161, r_162, r_163, r_164, r_165, r_166, r_167, r_168, r_169,
      r_170, r_171, r_172, r_173, r_174, r_175, r_176, r_177, r_178, r_179, r_180, r_181, r_182, r_183, r_184, r_185, r_186,
      r_187, r_188, r_189, r_190, r_191, r_192, r_193, r_194, r_195, v2, v3, v4, v6, v7, v8, v9, v10, v11, v12, cst_89]
    open_payloads_core
    refine key _ _ _ _ _ _ _ _ _ p h _ _ _ _ _ _ (by omega) ?_ x _ _ hh2 hh3
    · intro i j
      refine ZeroC.read _ _ _ ?_ _ i j
      first
        | refine ⟨15, by decide, ?_⟩; with_reducible exact zeroC16 ..
        | refine ⟨14, by decide, ?_⟩; with_reducible exact zeroC15 ..
        | refine ⟨13, by decide, ?_⟩; with_reducible exact zeroC14 ..
        | refine ⟨12, by decide, ?_⟩; with_reducible exact zeroC13 ..
        | refine ⟨11, by decide, ?_⟩; with_reducible exact zeroC12 ..
        | refine ⟨10, by decide, ?_⟩; with_reducible exact zeroC11 ..
        | refine ⟨9, by decide, ?_⟩; with_reducible exact zeroC10 ..
        | refine ⟨8, by decide, ?_⟩; with_reducible exact zeroC9 ..
        | refine ⟨7, by decide, ?_⟩; with_reducible exact zeroC8 ..
        | refine ⟨6, by decide, ?_⟩; with_reducible exact zeroC7 ..
        | refine ⟨5, by decide, ?_⟩; with_reducible exact zeroC6 ..
        | refine ⟨4, by decide, ?_⟩; with_reducible exact zeroC5 ..
        | refine ⟨3, by decide, ?_⟩; with_reducible exact zeroC4 ..
        | refine ⟨2, by decide, ?_⟩; with_reducible exact zeroC3 ..
        | refine ⟨1, by decide, ?_⟩; with_reducible exact zeroC2 ..
        | refine ⟨0, by decide, ?_⟩; with_reducible exact zeroC1

end Cert.Mlstm

end
-- ==== Proof.Mlstm.BlockNA.lean ====
/- What the kernel's body leaves in its block of the vector state at the first chunk of a group, where it zeroes both states first. -/
module

public import proofs.«01_k».proof.Proof.Gen.KernelIdeal.Value
public import proofs.«01_k».proof.Proof.Mlstm.ZeroA

@[expose] public section

set_option maxRecDepth 16384

noncomputable section

namespace Cert.Mlstm

open Idealize.ShloMosaic Idealize.ShloMosaic.TcCoe Cert.KernelIdeal Cert.KernelIdeal.Gen Cert.KernelIdeal.Gen.kernelRun0_A.sl

variable (m : (ℓ : Loc nD τ sig) → Buf (Elt Ideal) ℓ)

set_option maxHeartbeats 2000000 in
/-- The vector state after a group's first chunk. -/
theorem outN_A (c : Dev nD) (t : Fin cfg0.N) (h0 : t.val % 8 = 0) (p h : Fin 4) (j : Fin 256) :
    (outsAt0 m c t.val t.isLt).2.2 (ix4 p h 0 j)
      = (blkHead (iblk m c 0 t) (iblk m c 1 t) (iblk m c 2 t) (iblk m c 3 t) (iblk m c 4 t) (iblk m c 5 t) p h).nextN (fun _ => 0) j := by
  rw [outsAt0_A m c t h0]
  unfold out0_A_8
  dsimp only
  rw [View.read_writes_junk_eq_canon]
  unfold kernelRun0_A
  dsimp only
  unfold kernelRun0_A.sl.H8_16 kernelRun0_A.sl.H8_15 kernelRun0_A.sl.H8_14 kernelRun0_A.sl.H8_13 kernelRun0_A.sl.H8_12 kernelRun0_A.sl.H8_11 kernelRun0_A.sl.H8_10 kernelRun0_A.sl.H8_9 kernelRun0_A.sl.H8_8
    kernelRun0_A.sl.H8_7 kernelRun0_A.sl.H8_6 kernelRun0_A.sl.H8_5 kernelRun0_A.sl.H8_4 kernelRun0_A.sl.H8_3 kernelRun0_A.sl.H8_2 kernelRun0_A.sl.H8_1
  refine (canon_dropLast _ _ ?cover).trans ?_
  case cover =>
    dsimp only [List.dropLast]
    exact View.cover_of_tiled_head _ _ _ (by rfl) _
  dsimp only [List.dropLast]
  have key := @headN_load
  simp only [ldT, ldW, ldD, ldR, headN, k0_pay20, k0_pay6, k0_pay11, k0_pay12, k0_pay15] at key
  canon_tiles x hh
  all_goals
    have hp : (p : ℕ) = _ := hh0
    have hq : (h : ℕ) = _ := hh1
    dsimp only [
      r, r_1, r_2, r_3, r_4, r_5, r_6, r_7, r_8, r_9, r_10, r_11, r_12, r_13, r_14, r_15, r_16, r_17, r_18, r_19, r_20, r_21,
      r_22, r_23, r_24, r_25, r_26, r_27, r_28, r_29, r_30, r_31, r_32, r_33, r_34, r_35, r_36, r_37, r_38, r_39, r_40, r_41,
      r_42, r_43, r_44, r_45, r_46, r_47, r_48, r_49, r_50, r_51, r_52, r_53, r_54, r_55, r_56, r_57, r_58, r_59, r_60, r_61,
      r_62, r_63, r_64, r_65, r_66, r_67, r_68, r_69, r_70, r_71, r_72, r_73, r_74, r_75, r_76, r_77, r_78, r_79, r_80, r_81,
      r_82, r_83, r_84, r_85, r_86, r_87, r_88, r_89, r_90, r_91, r_92, r_93, r_94, r_95, r_96, r_97, r_98, r_99, r_100, r_101,
      r_102, r_103, r_104, r_105, r_106, r_107, r_108, r_109, r_110, r_111, r_112, r_113, r_114, r_115, r_116, r_117, r_118,
      r_119, r_120, r_121, r_122, r_123, r_124, r_125, r_126, r_127, r_128, r_129, r_130, r_131, r_132, r_133, r_134, r_135,
      r_136, r_137, r_138, r_139, r_140, r_141, r_142, r_143, r_144, r_145, r_146, r_147, r_148, r_149, r_150, r_151, r_152,
      r_153, r_154, r_155, r_156, r_157, r_158, r_159, r_160, r_161, r_162, r_163, r_164, r_165, r_166, r_167, r_168, r_169,
      r_170, r_171, r_172, r_173, r_174, r_175, r_176, r_177, r_178, r_179, r_180, r_181, r_182, r_183, r_184, r_185, r_186,
      r_187, r_188, r_189, r_190, r_191, r_192, r_193, r_194, r_195, v2, v3, v4, v6, v7, v8, v9, v10, v11, v12, cst_89]
    open_payloads_core
    refine key _ _ _ _ _ _ _ _ p h _ _ _ _ _ (by omega) ?_ x _ hh3
    · intro j
      refine ZeroN.read _ _ _ ?_ _ j
      first
        | refine ⟨15, by decide, ?_⟩; with_reducible exact zeroN16 ..
        | refine ⟨14, by decide, ?_⟩; with_reducible exact zeroN15 ..
        | refine ⟨13, by decide, ?_⟩; with_reducible exact zeroN14 ..
        | refine ⟨12, by decide, ?_⟩; with_reducible exact zeroN13 ..
        | refine ⟨11, by decide, ?_⟩; with_reducible exact zeroN12 ..
        | refine ⟨10, by decide, ?_⟩; with_reducible exact zeroN11 ..
        | refine ⟨9, by decide, ?_⟩; with_reducible exact zeroN10 ..
        | refine ⟨8, by decide, ?_⟩; with_reducible exact zeroN9 ..
        | refine ⟨7, by decide, ?_⟩; with_reducible exact zeroN8 ..
        | refine ⟨6, by decide, ?_⟩; with_reducible exact zeroN7 ..
        | refine ⟨5, by decide, ?_⟩; with_reducible exact zeroN6 ..
        | refine ⟨4, by decide, ?_⟩; with_reducible exact zeroN5 ..
        | refine ⟨3, by decide, ?_⟩; with_reducible exact zeroN4 ..
        | refine ⟨2, by decide, ?_⟩; with_reducible exact zeroN3 ..
        | refine ⟨1, by decide, ?_⟩; with_reducible exact zeroN2 ..
        | refine ⟨0, by decide, ?_⟩; with_reducible exact zeroN1

end Cert.Mlstm

end
-- ==== Proof.Mlstm.BlockYA.lean ====
/- What the kernel's body leaves in its block of the outputs at the first chunk of a group, where it zeroes both states first. -/
module

public import proofs.«01_k».proof.Proof.Gen.KernelIdeal.Value
public import proofs.«01_k».proof.Proof.Mlstm.ZeroA

@[expose] public section

set_option maxRecDepth 16384

noncomputable section

namespace Cert.Mlstm

open Idealize.ShloMosaic Idealize.ShloMosaic.TcCoe Cert.KernelIdeal Cert.KernelIdeal.Gen Cert.KernelIdeal.Gen.kernelRun0_A.sl

variable (m : (ℓ : Loc nD τ sig) → Buf (Elt Ideal) ℓ)

set_option maxHeartbeats 2000000 in
/-- The output of a group's first chunk. -/
theorem outY_A (c : Dev nD) (t : Fin cfg0.N) (h0 : t.val % 8 = 0) (p h : Fin 4) (l d : Fin 256) :
    (outsAt0 m c t.val t.isLt).1 (ix3 p l ⟨256 * (h : ℕ) + d, by omega⟩)
      = (blkHead (iblk m c 0 t) (iblk m c 1 t) (iblk m c 2 t) (iblk m c 3 t) (iblk m c 4 t) (iblk m c 5 t) p h).outRecip (fun _ _ => 0) (fun _ => 0) l d := by
  rw [outsAt0_A m c t h0]
  unfold out0_A_6
  dsimp only
  rw [View.read_writes_junk_eq_canon]
  unfold kernelRun0_A
  dsimp only
  have key := @headY_load
  simp only [ldT, ldW, ldD, ldR, headY, k0_pay18, k0_pay16, k0_pay17, k0_pay4, k0_pay5, k0_pay6, k0_pay7, k0_pay8, k0_pay9, k0_pay10] at key
  canon_tiles x hh
  all_goals
    have hp : (p : ℕ) = _ := hh0
    have hq : 256 * (h : ℕ) + (d : ℕ) = _ := hh2
    dsimp only [
      r, r_1, r_2, r_3, r_4, r_5, r_6, r_7, r_8, r_9, r_10, r_11, r_12, r_13, r_14, r_15, r_16, r_17, r_18, r_19, r_20, r_21,
      r_22, r_23, r_24, r_25, r_26, r_27, r_28, r_29, r_30, r_31, r_32, r_33, r_34, r_35, r_36, r_37, r_38, r_39, r_40, r_41,
      r_42, r_43, r_44, r_45, r_46, r_47, r_48, r_49, r_50, r_51, r_52, r_53, r_54, r_55, r_56, r_57, r_58, r_59, r_60, r_61,
      r_62, r_63, r_64, r_65, r_66, r_67, r_68, r_69, r_70, r_71, r_72, r_73, r_74, r_75, r_76, r_77, r_78, r_79, r_80, r_81,
      r_82, r_83, r_84, r_85, r_86, r_87, r_88, r_89, r_90, r_91, r_92, r_93, r_94, r_95, r_96, r_97, r_98, r_99, r_100, r_101,
      r_102, r_103, r_104, r_105, r_106, r_107, r_108, r_109, r_110, r_111, r_112, r_113, r_114, r_115, r_116, r_117, r_118,
      r_119, r_120, r_121, r_122, r_123, r_124, r_125, r_126, r_127, r_128, r_129, r_130, r_131, r_132, r_133, r_134, r_135,
      r_136, r_137, r_138, r_139, r_140, r_141, r_142, r_143, r_144, r_145, r_146, r_147, r_148, r_149, r_150, r_151, r_152,
      r_153, r_154, r_155, r_156, r_157, r_158, r_159, r_160, r_161, r_162, r_163, r_164, r_165, r_166, r_167, r_168, r_169,
      r_170, r_171, r_172, r_173, r_174, r_175, r_176, r_177, r_178, r_179, r_180, r_181, r_182, r_183, r_184, r_185, r_186,
      r_187, r_188, r_189, r_190, r_191, r_192, r_193, r_194, r_195, v2, v3, v4, v6, v7, v8, v9, v10, v11, v12, cst_89]
    open_payloads_core
    refine key _ _ _ _ _ _ _ _ _ _ _ _ p h _ _ _ _ _ _ _ _ _ _ _ _ (by omega) ?_ ?_ x _ _ hh1 (by omega)
    · intro i j
      refine ZeroC.read _ _ _ ?_ _ i j
      first
        | refine ⟨15, by decide, ?_⟩; with_reducible exact zeroC16 ..
        | refine ⟨14, by decide, ?_⟩; with_reducible exact zeroC15 ..
        | refine ⟨13, by decide, ?_⟩; with_reducible exact zeroC14 ..
        | refine ⟨12, by decide, ?_⟩; with_reducible exact zeroC13 ..
        | refine ⟨11, by decide, ?_⟩; with_reducible exact zeroC12 ..
        | refine ⟨10, by decide, ?_⟩; with_reducible exact zeroC11 ..
        | refine ⟨9, by decide, ?_⟩; with_reducible exact zeroC10 ..
        | refine ⟨8, by decide, ?_⟩; with_reducible exact zeroC9 ..
        | refine ⟨7, by decide, ?_⟩; with_reducible exact zeroC8 ..
        | refine ⟨6, by decide, ?_⟩; with_reducible exact zeroC7 ..
        | refine ⟨5, by decide, ?_⟩; with_reducible exact zeroC6 ..
        | refine ⟨4, by decide, ?_⟩; with_reducible exact zeroC5 ..
        | refine ⟨3, by decide, ?_⟩; with_reducible exact zeroC4 ..
        | refine ⟨2, by decide, ?_⟩; with_reducible exact zeroC3 ..
        | refine ⟨1, by decide, ?_⟩; with_reducible exact zeroC2 ..
        | refine ⟨0, by decide, ?_⟩; with_reducible exact zeroC1
    · intro j
      refine ZeroN.read _ _ _ ?_ _ j
      first
        | refine ⟨15, by decide, ?_⟩; with_reducible exact zeroN16 ..
        | refine ⟨14, by decide, ?_⟩; with_reducible exact zeroN15 ..
        | refine ⟨13, by decide, ?_⟩; with_reducible exact zeroN14 ..
        | refine ⟨12, by decide, ?_⟩; with_reducible exact zeroN13 ..
        | refine ⟨11, by decide, ?_⟩; with_reducible exact zeroN12 ..
        | refine ⟨10, by decide, ?_⟩; with_reducible exact zeroN11 ..
        | refine ⟨9, by decide, ?_⟩; with_reducible exact zeroN10 ..
        | refine ⟨8, by decide, ?_⟩; with_reducible exact zeroN9 ..
        | refine ⟨7, by decide, ?_⟩; with_reducible exact zeroN8 ..
        | refine ⟨6, by decide, ?_⟩; with_reducible exact zeroN7 ..
        | refine ⟨5, by decide, ?_⟩; with_reducible exact zeroN6 ..
        | refine ⟨4, by decide, ?_⟩; with_reducible exact zeroN5 ..
        | refine ⟨3, by decide, ?_⟩; with_reducible exact zeroN4 ..
        | refine ⟨2, by decide, ?_⟩; with_reducible exact zeroN3 ..
        | refine ⟨1, by decide, ?_⟩; with_reducible exact zeroN2 ..
        | refine ⟨0, by decide, ?_⟩; with_reducible exact zeroN1

end Cert.Mlstm

end
-- ==== Proof.Mlstm.BlockCB.lean ====
/- What the kernel's body leaves in its block of the matrix state at a later chunk of a group, where it goes on from the states the chunk before left. -/
module

public import proofs.«01_k».proof.Proof.Gen.KernelIdeal.Value
public import proofs.«01_k».proof.Proof.Mlstm.BlockLoad

@[expose] public section

set_option maxRecDepth 16384

noncomputable section

namespace Cert.Mlstm

open Idealize.ShloMosaic Idealize.ShloMosaic.TcCoe Cert.KernelIdeal Cert.KernelIdeal.Gen Cert.KernelIdeal.Gen.kernelRun0_B.sl

variable (m : (ℓ : Loc nD τ sig) → Buf (Elt Ideal) ℓ)

set_option maxHeartbeats 2000000 in
/-- The matrix state after a later chunk. -/
theorem outC_B (c : Dev nD) (t : Fin cfg0.N) (h0 : ¬t.val % 8 = 0) (C : S4x4x256x256.Idx → EReal)
    (hC : (outsAt0 m c (t.val - 1) (Nat.lt_of_le_of_lt (Nat.sub_le _ _) t.isLt)).2.1 = C) (p h : Fin 4) (i j : Fin 256) :
    (outsAt0 m c t.val t.isLt).2.1 (ix4 p h i j)
      = (blkHead (iblk m c 0 t) (iblk m c 1 t) (iblk m c 2 t) (iblk m c 3 t) (iblk m c 4 t) (iblk m c 5 t) p h).nextC (fun i j => C (ix4 p h i j)) i j := by
  rw [outsAt0_B m c t h0, hC]
  unfold out0_B_7
  dsimp only
  rw [View.read_writes_junk_eq_canon]
  unfold kernelRun0_B
  dsimp only
  have key := @headC_load
  simp only [ldT, ldW, ldD, ldR, headC, k0_pay19, k0_pay6, k0_pay7, k0_pay11, k0_pay12, k0_pay14] at key
  canon_tiles x hh
  all_goals
    have hp : (p : ℕ) = _ := hh0
    have hq : (h : ℕ) = _ := hh1
    dsimp only [
      r, r_1, r_2, r_3, r_4, r_5, r_6, r_7, r_8, r_9, r_10, r_11, r_12, r_13, r_14, r_15, r_16, r_17, r_18, r_19, r_20, r_21,
      r_22, r_23, r_24, r_25, r_26, r_27, r_28, r_29, r_30, r_31, r_32, r_33, r_34, r_35, r_36, r_37, r_38, r_39, r_40, r_41,
      r_42, r_43, r_44, r_45, r_46, r_47, r_48, r_49, r_50, r_51, r_52, r_53, r_54, r_55, r_56, r_57, r_58, r_59, r_60, r_61,
      r_62, r_63, r_64, r_65, r_66, r_67, r_68, r_69, r_70, r_71, r_72, r_73, r_74, r_75, r_76, r_77, r_78, r_79, r_80, r_81,
      r_82, r_83, r_84, r_85, r_86, r_87, r_88, r_89, r_90, r_91, r_92, r_93, r_94, r_95, r_96, r_97, r_98, r_99, r_100, r_101,
      r_102, r_103, r_104, r_105, r_106, r_107, r_108, r_109, r_110, r_111, r_112, r_113, r_114, r_115, r_116, r_117, r_118,
      r_119, r_120, r_121, r_122, r_123, r_124, r_125, r_126, r_127, r_128, r_129, r_130, r_131, r_132, r_133, r_134, r_135,
      r_136, r_137, r_138, r_139, r_140, r_141, r_142, r_143, r_144, r_145, r_146, r_147, r_148, r_149, r_150, r_151, r_152,
      r_153, r_154, r_155, r_156, r_157, r_158, r_159, r_160, r_161, r_162, r_163, r_164, r_165, r_166, r_167, r_168, r_169,
      r_170, r_171, r_172, r_173, r_174, r_175, r_176, r_177, r_178, r_179, r_180, r_181, r_182, r_183, r_184, r_185, r_186,
      r_187, r_188, r_189, r_190, r_191, r_192, r_193, r_194, r_195, v123, v125, v204, v206, v285, v287, v366, v368, v447, v449,
      v528, v530, v609, v611, v690, v692, v771, v773, v852, v854, v933, v935, v1014, v1016, v1095, v1097, v1176, v1178, v1257,
      v1259, cst_89]
    open_payloads_core
    exact key _ _ _ _ _ _ _ _ _ p h _ _ _ _ _ _ (by omega) (fun i j => load_mat _ _ _ _ _ (by omega) (by omega) i j) x _ _ hh2 hh3

end Cert.Mlstm

end
-- ==== Proof.Mlstm.BlockNB.lean ====
/- What the kernel's body leaves in its block of the vector state at a later chunk of a group, where it goes on from the states the chunk before left. -/
module

public import proofs.«01_k».proof.Proof.Gen.KernelIdeal.Value
public import proofs.«01_k».proof.Proof.Mlstm.BlockLoad

@[expose] public section

set_option maxRecDepth 16384

noncomputable section

namespace Cert.Mlstm

open Idealize.ShloMosaic Idealize.ShloMosaic.TcCoe Cert.KernelIdeal Cert.KernelIdeal.Gen Cert.KernelIdeal.Gen.kernelRun0_B.sl

variable (m : (ℓ : Loc nD τ sig) → Buf (Elt Ideal) ℓ)

set_option maxHeartbeats 2000000 in
/-- The vector state after a later chunk. -/
theorem outN_B (c : Dev nD) (t : Fin cfg0.N) (h0 : ¬t.val % 8 = 0) (n : S4x4x1x256.Idx → EReal)
    (hn : (outsAt0 m c (t.val - 1) (Nat.lt_of_le_of_lt (Nat.sub_le _ _) t.isLt)).2.2 = n) (p h : Fin 4) (j : Fin 256) :
    (outsAt0 m c t.val t.isLt).2.2 (ix4 p h 0 j)
      = (blkHead (iblk m c 0 t) (iblk m c 1 t) (iblk m c 2 t) (iblk m c 3 t) (iblk m c 4 t) (iblk m c 5 t) p h).nextN (fun j => n (ix4 p h 0 j)) j := by
  rw [outsAt0_B m c t h0, hn]
  unfold out0_B_8
  dsimp only
  rw [View.read_writes_junk_eq_canon]
  unfold kernelRun0_B
  dsimp only
  have key := @headN_load
  simp only [ldT, ldW, ldD, ldR, headN, k0_pay20, k0_pay6, k0_pay11, k0_pay12, k0_pay15] at key
  canon_tiles x hh
  all_goals
    have hp : (p : ℕ) = _ := hh0
    have hq : (h : ℕ) = _ := hh1
    dsimp only [
      r, r_1, r_2, r_3, r_4, r_5, r_6, r_7, r_8, r_9, r_10, r_11, r_12, r_13, r_14, r_15, r_16, r_17, r_18, r_19, r_20, r_21,
      r_22, r_23, r_24, r_25, r_26, r_27, r_28, r_29, r_30, r_31, r_32, r_33, r_34, r_35, r_36, r_37, r_38, r_39, r_40, r_41,
      r_42, r_43, r_44, r_45, r_46, r_47, r_48, r_49, r_50, r_51, r_52, r_53, r_54, r_55, r_56, r_57, r_58, r_59, r_60, r_61,
      r_62, r_63, r_64, r_65, r_66, r_67, r_68, r_69, r_70, r_71, r_72, r_73, r_74, r_75, r_76, r_77, r_78, r_79, r_80, r_81,
      r_82, r_83, r_84, r_85, r_86, r_87, r_88, r_89, r_90, r_91, r_92, r_93, r_94, r_95, r_96, r_97, r_98, r_99, r_100, r_101,
      r_102, r_103, r_104, r_105, r_106, r_107, r_108, r_109, r_110, r_111, r_112, r_113, r_114, r_115, r_116, r_117, r_118,
      r_119, r_120, r_121, r_122, r_123, r_124, r_125, r_126, r_127, r_128, r_129, r_130, r_131, r_132, r_133, r_134, r_135,
      r_136, r_137, r_138, r_139, r_140, r_141, r_142, r_143, r_144, r_145, r_146, r_147, r_148, r_149, r_150, r_151, r_152,
      r_153, r_154, r_155, r_156, r_157, r_158, r_159, r_160, r_161, r_162, r_163, r_164, r_165, r_166, r_167, r_168, r_169,
      r_170, r_171, r_172, r_173, r_174, r_175, r_176, r_177, r_178, r_179, r_180, r_181, r_182, r_183, r_184, r_185, r_186,
      r_187, r_188, r_189, r_190, r_191, r_192, r_193, r_194, r_195, v123, v125, v204, v206, v285, v287, v366, v368, v447, v449,
      v528, v530, v609, v611, v690, v692, v771, v773, v852, v854, v933, v935, v1014, v1016, v1095, v1097, v1176, v1178, v1257,
      v1259, cst_89]
    open_payloads_core
    exact key _ _ _ _ _ _ _ _ p h _ _ _ _ _ (by omega) (fun j => load_vec _ _ _ _ _ (by omega) (by omega) j) x _ hh3

end Cert.Mlstm

end
-- ==== Proof.Mlstm.BlockYB.lean ====
/- What the kernel's body leaves in its block of the outputs at a later chunk of a group, where it goes on from the states the chunk before left. -/
module

public import proofs.«01_k».proof.Proof.Gen.KernelIdeal.Value
public import proofs.«01_k».proof.Proof.Mlstm.BlockLoad

@[expose] public section

set_option maxRecDepth 16384

noncomputable section

namespace Cert.Mlstm

open Idealize.ShloMosaic Idealize.ShloMosaic.TcCoe Cert.KernelIdeal Cert.KernelIdeal.Gen Cert.KernelIdeal.Gen.kernelRun0_B.sl

variable (m : (ℓ : Loc nD τ sig) → Buf (Elt Ideal) ℓ)

set_option maxHeartbeats 2000000 in
/-- The output of a later chunk. -/
theorem outY_B (c : Dev nD) (t : Fin cfg0.N) (h0 : ¬t.val % 8 = 0) (C : S4x4x256x256.Idx → EReal) (n : S4x4x1x256.Idx → EReal)
    (hC : (outsAt0 m c (t.val - 1) (Nat.lt_of_le_of_lt (Nat.sub_le _ _) t.isLt)).2.1 = C)
    (hn : (outsAt0 m c (t.val - 1) (Nat.lt_of_le_of_lt (Nat.sub_le _ _) t.isLt)).2.2 = n) (p h : Fin 4) (l d : Fin 256) :
    (outsAt0 m c t.val t.isLt).1 (ix3 p l ⟨256 * (h : ℕ) + d, by omega⟩)
      = (blkHead (iblk m c 0 t) (iblk m c 1 t) (iblk m c 2 t) (iblk m c 3 t) (iblk m c 4 t) (iblk m c 5 t) p h).outRecip (fun i j => C (ix4 p h i j)) (fun j => n (ix4 p h 0 j)) l d := by
  rw [outsAt0_B m c t h0, hC, hn]
  unfold out0_B_6
  dsimp only
  rw [View.read_writes_junk_eq_canon]
  unfold kernelRun0_B
  dsimp only
  have key := @headY_load
  simp only [ldT, ldW, ldD, ldR, headY, k0_pay18, k0_pay16, k0_pay17, k0_pay4, k0_pay5, k0_pay6, k0_pay7, k0_pay8, k0_pay9, k0_pay10] at key
  canon_tiles x hh
  all_goals
    have hp : (p : ℕ) = _ := hh0
    have hq : 256 * (h : ℕ) + (d : ℕ) = _ := hh2
    dsimp only [
      r, r_1, r_2, r_3, r_4, r_5, r_6, r_7, r_8, r_9, r_10, r_11, r_12, r_13, r_14, r_15, r_16, r_17, r_18, r_19, r_20, r_21,
      r_22, r_23, r_24, r_25, r_26, r_27, r_28, r_29, r_30, r_31, r_32, r_33, r_34, r_35, r_36, r_37, r_38, r_39, r_40, r_41,
      r_42, r_43, r_44, r_45, r_46, r_47, r_48, r_49, r_50, r_51, r_52, r_53, r_54, r_55, r_56, r_57, r_58, r_59, r_60, r_61,
      r_62, r_63, r_64, r_65, r_66, r_67, r_68, r_69, r_70, r_71, r_72, r_73, r_74, r_75, r_76, r_77, r_78, r_79, r_80, r_81,
      r_82, r_83, r_84, r_85, r_86, r_87, r_88, r_89, r_90, r_91, r_92, r_93, r_94, r_95, r_96, r_97, r_98, r_99, r_100, r_101,
      r_102, r_103, r_104, r_105, r_106, r_107, r_108, r_109, r_110, r_111, r_112, r_113, r_114, r_115, r_116, r_117, r_118,
      r_119, r_120, r_121, r_122, r_123, r_124, r_125, r_126, r_127, r_128, r_129, r_130, r_131, r_132, r_133, r_134, r_135,
      r_136, r_137, r_138, r_139, r_140, r_141, r_142, r_143, r_144, r_145, r_146, r_147, r_148, r_149, r_150, r_151, r_152,
      r_153, r_154, r_155, r_156, r_157, r_158, r_159, r_160, r_161, r_162, r_163, r_164, r_165, r_166, r_167, r_168, r_169,
      r_170, r_171, r_172, r_173, r_174, r_175, r_176, r_177, r_178, r_179, r_180, r_181, r_182, r_183, r_184, r_185, r_186,
      r_187, r_188, r_189, r_190, r_191, r_192, r_193, r_194, r_195, v123, v125, v204, v206, v285, v287, v366, v368, v447, v449,
      v528, v530, v609, v611, v690, v692, v771, v773, v852, v854, v933, v935, v1014, v1016, v1095, v1097, v1176, v1178, v1257,
      v1259, cst_89]
    open_payloads_core
    generalize hCv : View.readAt _ (ms0_7 t).view _ _ = Cv
    generalize hnv : View.readAt _ (ms0_8 t).view _ _ = nv
    refine key _ _ _ _ _ _ _ _ _ _ _ _ p h _ _ _ _ _ _ _ _ _ _ _ _ (by omega) ?_ ?_ x _ _ hh1 (by omega)
    · intro i j
      rw [← hCv]
      exact load_mat _ _ _ _ _ (by omega) (by omega) i j
    · intro j
      rw [← hnv]
      exact load_vec _ _ _ _ _ (by omega) (by omega) j

end Cert.Mlstm

end
-- ==== Proof.Mlstm.KerSeq.lean ====
/- The kernel's states after each grid point and its outputs at it are the recurrence's. -/
module

public import proofs.«01_k».proof.Proof.Mlstm.KerRead
public import proofs.«01_k».proof.Proof.Mlstm.BlockCA
public import proofs.«01_k».proof.Proof.Mlstm.BlockNA
public import proofs.«01_k».proof.Proof.Mlstm.BlockYA
public import proofs.«01_k».proof.Proof.Mlstm.BlockCB
public import proofs.«01_k».proof.Proof.Mlstm.BlockNB
public import proofs.«01_k».proof.Proof.Mlstm.BlockYB

@[expose] public section

set_option maxRecDepth 16384

noncomputable section

namespace Cert.Mlstm.Ker

open Idealize.ShloMosaic Idealize.ShloMosaic.TcCoe Cert.KernelIdeal Cert.KernelIdeal.Gen

variable (m : (ℓ : Loc nD τ sig) → Buf (Elt Ideal) ℓ) (c : Dev nD)

/-- The point before, in the same group. -/
def prev (t : Fin cfg0.N) : Fin cfg0.N := ⟨t.val - 1, Nat.lt_of_le_of_lt (Nat.sub_le _ _) t.isLt⟩

theorem seq_prev (t : Fin cfg0.N) (h0 : ¬t.val % 8 = 0) (p : Fin 4) : seq (prev t) p = seq t p := by
  unfold seq prev
  ext
  dsimp only
  omega

theorem chunk_prev (t : Fin cfg0.N) (h0 : ¬t.val % 8 = 0) : (chunk (prev t) : ℕ) + 1 = chunk t := by
  unfold chunk prev
  dsimp only
  omega

/-- The states a point leaves. -/
def Holds (t : Fin cfg0.N) : Prop :=
  (∀ p h i j, (outsAt0 m c t.val t.isLt).2.1 (ix4 p h i j) = (inputs m c).matC (seq t p) h (chunk t + 1) i j)
    ∧ ∀ p h j, (outsAt0 m c t.val t.isLt).2.2 (ix4 p h 0 j) = (inputs m c).vecN (seq t p) h (chunk t + 1) j

theorem holds_A (t : Fin cfg0.N) (h0 : t.val % 8 = 0) : Holds m c t := by
  have e : (chunk t : ℕ) = 0 := h0
  constructor
  · intro p h i j
    rw [outC_A m c t h0, head_at, Inputs.matC_succ, e]
    rfl
  · intro p h j
    rw [outN_A m c t h0, head_at, Inputs.vecN_succ, e]
    rfl

theorem holds_B (t : Fin cfg0.N) (h0 : ¬t.val % 8 = 0) (ih : Holds m c (prev t)) : Holds m c t := by
  obtain ⟨hC, hN⟩ := ih
  constructor
  · intro p h i j
    rw [outC_B m c t h0 _ rfl, head_at, Inputs.matC_succ]
    congr 1
    funext i j
    exact (hC p h i j).trans (by rw [seq_prev t h0, chunk_prev t h0])
  · intro p h j
    rw [outN_B m c t h0 _ rfl, head_at, Inputs.vecN_succ]
    congr 1
    funext j
    exact (hN p h j).trans (by rw [seq_prev t h0, chunk_prev t h0])

theorem holds_all (n : ℕ) (hn : n < cfg0.N) : Holds m c ⟨n, hn⟩ := by
  induction n with
  | zero => exact holds_A m c _ rfl
  | succ n ih =>
    by_cases h0 : (n + 1) % 8 = 0
    · exact holds_A m c _ h0
    · exact holds_B m c ⟨n + 1, hn⟩ h0 (ih _)

/-- The outputs of a point, with the kernel's reciprocal. -/
theorem outRecip_at (t : Fin cfg0.N) (p h : Fin 4) (l d : Fin 256) :
    (outsAt0 m c t.val t.isLt).1 (ix3 p l ⟨256 * (h : ℕ) + d, by omega⟩)
      = ((inputs m c).head (chunk t) (seq t p) h).outRecip ((inputs m c).matC (seq t p) h (chunk t))
          ((inputs m c).vecN (seq t p) h (chunk t)) l d := by
  by_cases h0 : t.val % 8 = 0
  · have e : (chunk t : ℕ) = 0 := h0
    rw [outY_A m c t h0, head_at, e]
    rfl
  · obtain ⟨hC, hN⟩ := holds_all m c (prev t).val (prev t).isLt
    rw [outY_B m c t h0 _ _ rfl rfl, head_at]
    congr 1
    · funext i j
      exact (hC p h i j).trans (by rw [Fin.eta, seq_prev t h0, chunk_prev t h0])
    · funext j
      exact (hN p h j).trans (by rw [Fin.eta, seq_prev t h0, chunk_prev t h0])

/-- Where every bound is positive, the outputs of a point are the recurrence's. -/
theorem out_at (hpos : ∀ b r (h : Fin 4), 0 < (inputs m c).W b r ⟨8 + (h : ℕ), by omega⟩) (t : Fin cfg0.N) (p h : Fin 4)
    (l d : Fin 256) :
    (outsAt0 m c t.val t.isLt).1 (ix3 p l ⟨256 * (h : ℕ) + d, by omega⟩)
      = (inputs m c).y (seq t p) (tok (chunk t) l) (lane h d) := by
  rw [outRecip_at, Inputs.y_at]
  exact Head.outRecip_eq _ _ _ _ _ (hpos _ _ _)

/-- … at every index of the block. -/
theorem out_block (hpos : ∀ b r (h : Fin 4), 0 < (inputs m c).W b r ⟨8 + (h : ℕ), by omega⟩) (t : Fin cfg0.N) (y : S4x256x1024.Idx) :
    (outsAt0 m c t.val t.isLt).1 y = (inputs m c).y (seq t (y 0)) (tok (chunk t) (y 1)) (y 2) := by
  idx_vars y
  have key := out_at m c hpos t y0 ⟨(y2 : ℕ) / 256, by omega⟩ y1 ⟨(y2 : ℕ) % 256, by omega⟩
  have he : (⟨256 * ((y2 : ℕ) / 256) + (y2 : ℕ) % 256, by omega⟩ : Fin 1024) = y2 := Fin.ext (by dsimp only; omega)
  unfold lane at key
  dsimp only at key
  rw [he] at key
  exact key

/-- The array of outputs. -/
theorem final6 (hpos : ∀ b r (h : Fin 4), 0 < (inputs m c).W b r ⟨8 + (h : ℕ), by omega⟩) :
    (dats m 0 c).arrAt 6 cfg0.N = fun i : S8x2048x1024.Idx => (inputs m c).y (i 0) (i 1) (i 2) := by
  refine Pipeline.Dat.arrAt_eq_of_covers (dats m 0 c) 6 _ (by decide +kernel) fun t hf y => ?_
  blk_simp
  rw [after0_6]
  refine (out_block m c hpos t y).trans ?_
  congr 1
  all_goals
    ext
    first | (blk_simp [idx t]; done) | (blk_simp [idx t]; unfold seq; dsimp only; omega) | (blk_simp [idx t]; unfold tok chunk; dsimp only; omega)

/-- The array of matrix states. -/
theorem final7 : (dats m 0 c).arrAt 7 cfg0.N = fun i : S8x4x256x256.Idx => (inputs m c).matC (i 0) (i 1) 8 (i 2) (i 3) := by
  refine Pipeline.Dat.arrAt_eq_of_covers (dats m 0 c) 7 _ (by decide +kernel) fun t hf y => ?_
  blk_simp
  rw [after0_7]
  have h7 : (chunk t : ℕ) + 1 = 8 := congrArg (· + 1) ((flush0_7 t).mp hf)
  have key : ∀ y : S4x4x256x256.Idx, (outsAt0 m c t.val t.isLt).2.1 y = (inputs m c).matC (seq t (y 0)) (y 1) 8 (y 2) (y 3) := by
    intro y
    idx_vars y
    rw [← h7]
    exact (holds_all m c t.val t.isLt).1 _ _ _ _
  refine (key y).trans ?_
  congr 1
  all_goals
    ext
    first | (blk_simp [idx t]; done) | (blk_simp [idx t]; unfold seq; dsimp only; omega) | (blk_simp [idx t]; unfold tok chunk; dsimp only; omega)

/-- The array of vector states. -/
theorem final8 : (dats m 0 c).arrAt 8 cfg0.N = fun i : S8x4x1x256.Idx => (inputs m c).vecN (i 0) (i 1) 8 (i 3) := by
  refine Pipeline.Dat.arrAt_eq_of_covers (dats m 0 c) 8 _ (by decide +kernel) fun t hf y => ?_
  blk_simp
  rw [after0_8]
  have h7 : (chunk t : ℕ) + 1 = 8 := congrArg (· + 1) ((flush0_8 t).mp hf)
  have key : ∀ y : S4x4x1x256.Idx, (outsAt0 m c t.val t.isLt).2.2 y = (inputs m c).vecN (seq t (y 0)) (y 1) 8 (y 3) := by
    intro y
    idx_vars y
    rw [← h7, show y2 = 0 from Subsingleton.elim _ _]
    exact (holds_all m c t.val t.isLt).2 _ _ _
  refine (key y).trans ?_
  congr 1
  all_goals
    ext
    first | (blk_simp [idx t]; done) | (blk_simp [idx t]; unfold seq; dsimp only; omega) | (blk_simp [idx t]; unfold tok chunk; dsimp only; omega)

end Cert.Mlstm.Ker

end
-- ==== Proof.Mlstm.RefFinal.lean ====
/- The reference's three results: the cells' outputs of all tokens and the two states after the last chunk. -/
module

public import proofs.«01_k».proof.Proof.Mlstm.RefSeq

@[expose] public section

set_option maxRecDepth 16384

noncomputable section

namespace Cert.Mlstm.Ref

open Idealize.ShloMosaic Idealize.ShloMosaic.TcCoe Cert.ReferenceIdeal Cert.ReferenceIdeal.Gen Cert.ReferenceIdeal.Step

/-- The first result reads the stack of chunks at the token's chunk and row and the column's head and lane. -/
theorem flat_at (s : State Ideal) (b c : Fin 8) (l : Fin 256) (h : Fin 4) (d : Fin 256) :
    R_main_v42 s (ix3 b (tok c l) (lane h d)) = s.main_v39_14 (ix5 c b l h d) := by
  unfold tok lane
  pointwise [R_main_v42]

variable {x0 x1 x2 : FVec Ideal S16384x1024 .bf16} {x3 : FVec Ideal S16384x1024 .f32} {x4 : FVec Ideal S8x8x2048 .f32}
  {x5 : FVec Ideal S8x2048x128 .f32}
variable {it : ℕ → State Ideal} (h0 : it 0 = init x0 x1 x2 x3 x4 x5) (hs : ∀ n, it (n + 1) = step n (it n))
include h0 hs

/-- The first result: the cell's output of every token. -/
theorem final_y : R_main_v42 (it 8) = fun i : S8x2048x1024.Idx => (inputs x0 x1 x2 x3 x4 x5).y (i 0) (i 1) (i 2) := by
  funext i
  idx_vars i
  obtain ⟨c, l, rfl⟩ : ∃ c l, i1 = tok c l := ⟨⟨i1 / 256, by omega⟩, ⟨i1 % 256, by omega⟩, Fin.ext (by simp [tok]; omega)⟩
  obtain ⟨h, d, rfl⟩ : ∃ h d, i2 = lane h d := ⟨⟨i2 / 256, by omega⟩, ⟨i2 % 256, by omega⟩, Fin.ext (by simp [lane]; omega)⟩
  refine (flat_at (it 8) i0 c l h d).trans ?_
  rw [stack_it h0 hs 8 le_rfl c i0 c.isLt l h d]
  exact ((inputs x0 x1 x2 x3 x4 x5).y_at i0 c l h d).symm

/-- The second result: the matrix state after the last chunk. -/
theorem final_C : (it 8).main_v39_12 = fun i : S8x4x256x256.Idx => (inputs x0 x1 x2 x3 x4 x5).matC (i 0) (i 1) 8 (i 2) (i 3) := by
  funext i
  idx_vars i
  exact (state_it h0 hs 8 le_rfl).1 i0 i1 i2 i3

/-- The third result: the vector state after the last chunk. -/
theorem final_n : R_main_v43 (it 8) = fun i : S8x4x1x256.Idx => (inputs x0 x1 x2 x3 x4 x5).vecN (i 0) (i 1) 8 (i 3) := by
  funext i
  idx_vars i
  refine Eq.trans ?_ ((state_it h0 hs 8 le_rfl).2 i0 i1 i3)
  pointwise [R_main_v43]

end Cert.Mlstm.Ref

end
-- ==== Proof.Mlstm.Pre.lean ====
/- What the precondition says: the lower bounds of the normaliser are positive. -/
module

public import proofs.«01_k».proof.Defs
public import proofs.«01_k».proof.Proof.Mlstm.KerRead
public import proofs.«01_k».proof.Proof.Gen.Pre_floor_positive
public import Idealize.ShloMosaic.Lib.ReduceAll

@[expose] public section

set_option maxRecDepth 16384

noncomputable section

namespace Cert.Mlstm

open Idealize.ShloMosaic Idealize.ShloMosaic.TcCoe

/-- The printed predicate gives the bound's sign at every sequence, token and head. -/
theorem positive_of_fn (x0 x1 x2 : FVec Ideal Pre_floor_positive.S16384x1024 .bf16) (x3 : FVec Ideal Pre_floor_positive.S16384x1024 .f32)
    (x4 : FVec Ideal Pre_floor_positive.S8x8x2048 .f32) (x5 : FVec Ideal Pre_floor_positive.S8x2048x128 .f32)
    (hp : Pre_floor_positive.fn (F := Ideal) x0 x1 x2 x3 x4 x5 = fun _ => 1#1) (b : Fin 8) (r : Fin 2048) (h : Fin 4) :
    (0 : EReal) < x5 (ix3 b r ⟨8 + (h : ℕ), by omega⟩) := by
  haveI : Subsingleton Pre_floor_positive.S_.Idx := ⟨fun a b => funext fun k => k.elim0⟩
  have key := Host.reduce_andi_all _ _ _ _ _ (congrFun hp (fun k => k.elim0)) (ix3 b r h)
  have key' : BitVec.ofBool (decide (0 < x5 (ix3 b r ⟨8 + (h : ℕ), by omega⟩))) = 1#1 := by
    refine Eq.trans ?_ key
    pointwise
  by_contra hc
  simp [hc] at key'

end Cert.Mlstm

end
-- ==== Proof.Ffn.Spec.lean ====
/- One token's feed-forward part: a norm, two products with a squared ramp between them, a norm, and the residual. -/
module

public import Idealize.ShloMosaic.PureOps.Ideal.Laws

@[expose] public section

noncomputable section

namespace Cert.Ffn

open Idealize.ShloMosaic

/-- One over the root of the mean square, with the small constant under the root. -/
def scale (z : Fin 1024 → EReal) : EReal :=
  Ideal.rsqrt (Ideal.div (∑ e : Fin 1024, z e * z e) (Ideal.ofBits .f32 0x44800000#32) + Ideal.ofBits .f32 0x358637BD#32)

/-- The root-mean-square norm with weights `g`. -/
def norm (z g : Fin 1024 → EReal) (e : Fin 1024) : EReal := z e * scale z * g e

/-- The hidden layer: a product, then the square of its positive part. -/
def hidden (h : Fin 1024 → EReal) (w : Fin 1024 → Fin 4096 → EReal) (f : Fin 4096) : EReal :=
  max (∑ e : Fin 1024, h e * w e f) 0 * max (∑ e : Fin 1024, h e * w e f) 0

/-- What the feed-forward part makes of one token. -/
def token (x g g' : Fin 1024 → EReal) (w : Fin 1024 → Fin 4096 → EReal) (w' : Fin 4096 → Fin 1024 → EReal) (e : Fin 1024) : EReal :=
  x e + norm (fun d => ∑ f : Fin 4096, hidden (norm x g) w f * w' f d) g' e

end Cert.Ffn

end
-- ==== Proof.Ffn.Kernel.lean ====
/- The kernel's arithmetic for a block of tokens, read at an index. -/
module

public import proofs.«01_k».proof.Proof.Gen.Kernel2Ideal.Skeleton
public import proofs.«01_k».proof.Proof.Ffn.Spec
public import Idealize.ShloMosaic.Lib.Pointwise

@[expose] public section

set_option maxRecDepth 16384

noncomputable section

namespace Cert.Ffn

open Idealize.ShloMosaic Idealize.ShloMosaic.TcCoe Cert.Kernel2Ideal Cert.Kernel2Ideal.Gen

/-- What the body stores for token `r` of its block. -/
theorem pay_at (x : FVec Ideal S512x1024 .f32) (g g' : FVec Ideal S1x1024 .f32) (w : FVec Ideal S1024x4096 .bf16) (w' : FVec Ideal S4096x1024 .bf16)
    (r : Fin 512) (e : Fin 1024) :
    k0_pay2 (F := Ideal) x g w w' g' (ix2 r e)
      = token (fun e => x (ix2 r e)) (fun e => g (ix2 0 e)) (fun e => g' (ix2 0 e)) (fun e f => w (ix2 e f)) (fun f e => w' (ix2 f e)) e := by
  unfold token norm hidden scale
  pointwise [k0_pay2]

end Cert.Ffn

end
-- ==== Proof.Ffn.Final.lean ====
/- The kernel's array of tokens after the call. -/
module

public import proofs.«01_k».proof.Proof.Gen.Kernel2Ideal.Value
public import proofs.«01_k».proof.Proof.Ffn.Kernel
public import Idealize.ShloMosaic.Lib.Pipeline.ValueKit

@[expose] public section

set_option maxRecDepth 16384

noncomputable section

namespace Cert.Ffn.Ker

open Idealize.ShloMosaic Idealize.ShloMosaic.TcCoe Cert.Kernel2Ideal Cert.Kernel2Ideal.Gen

/-- The blocks' numbers at every point: point `t` has the tokens from `512 * t` on and the whole weights. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_8.index t = ![t.val, 0] ∧ t.val < 32 :=
  (by decide +kernel : ∀ t : Fin grid0.N, _)

variable (m : (ℓ : Loc nD τ sig) → Buf (Elt Ideal) ℓ) (c : Dev nD)

/-- The feed-forward part of token `r`, of the kernel's arguments. -/
def row (r : Fin 16384) (e : Fin 1024) : EReal :=
  token (fun e => (m ((c : Thread nD τ).loc main_arg0) : FVec Ideal S16384x1024 .f32) (ix2 r e))
    (fun e => (m ((c : Thread nD τ).loc main_arg1) : FVec Ideal S1x1024 .f32) (ix2 0 e))
    (fun e => (m ((c : Thread nD τ).loc main_arg2) : FVec Ideal S1x1024 .f32) (ix2 0 e))
    (fun e f => (m ((c : Thread nD τ).loc main_arg3) : FVec Ideal S1024x4096 .bf16) (ix2 e f))
    (fun f e => (m ((c : Thread nD τ).loc main_arg4) : FVec Ideal S4096x1024 .bf16) (ix2 f e)) e

/-- The token of a point's block. -/
def tok (t : Fin cfg0.N) (p : Fin 512) : Fin 16384 := ⟨512 * t.val + p, by have := (idx t).2.2.2.2.2.2; omega⟩

theorem win0_at (t : Fin cfg0.N) (p : Fin 512) (e : Fin 1024) :
    (iblk m c 0 t : FVec Ideal S512x1024 .f32) (ix2 p e) = (m ((c : Thread nD τ).loc main_arg0) : FVec Ideal S16384x1024 .f32) (ix2 (tok t p) e) := by
  have := (idx t).2.2.2.2.2.2
  unfold tok
  blk_point [iblk, V, idx t]

theorem win1_at (t : Fin cfg0.N) (e : Fin 1024) :
    (iblk m c 1 t : FVec Ideal S1x1024 .f32) (ix2 0 e) = (m ((c : Thread nD τ).loc main_arg1) : FVec Ideal S1x1024 .f32) (ix2 0 e) := by
  blk_point [iblk, V, idx t]

theorem win2_at (t : Fin cfg0.N) (e : Fin 1024) :
    (iblk m c 2 t : FVec Ideal S1x1024 .f32) (ix2 0 e) = (m ((c : Thread nD τ).loc main_arg2) : FVec Ideal S1x1024 .f32) (ix2 0 e) := by
  blk_point [iblk, V, idx t]

theorem win3_at (t : Fin cfg0.N) (e : Fin 1024) (f : Fin 4096) :
    (iblk m c 3 t : FVec Ideal S1024x4096 .bf16) (ix2 e f) = (m ((c : Thread nD τ).loc main_arg3) : FVec Ideal S1024x4096 .bf16) (ix2 e f) := by
  blk_point [iblk, V, idx t]

theorem win4_at (t : Fin cfg0.N) (f : Fin 4096) (e : Fin 1024) :
    (iblk m c 4 t : FVec Ideal S4096x1024 .bf16) (ix2 f e) = (m ((c : Thread nD τ).loc main_arg4) : FVec Ideal S4096x1024 .bf16) (ix2 f e) := by
  blk_point [iblk, V, idx t]

/-- What a point leaves in its block of tokens. -/
theorem out_at (t : Fin cfg0.N) (p : Fin 512) (e : Fin 1024) :
    out0_8 (F := Ideal) (iblk m c 0 t) (iblk m c 1 t) (iblk m c 2 t) (iblk m c 3 t) (iblk m c 4 t) (iblk m c 5 t) (iblk m c 6 t) (iblk m c 7 t) (ix2 p e)
      = row m c (tok t p) e := by
  unfold out0_8
  canon_tiles x hh
  rw [show x = ix2 p e from by idx_vars x; congr 1 <;> ext <;> simpa using by omega]
  refine (pay_at _ _ _ _ _ p e).trans ?_
  unfold row
  congr 1
  · funext e; exact (congrFun (View.ld_unit_lit _ _ (by decide)) _).trans (win0_at m c t p e)
  · funext e; exact (congrFun (View.ld_unit_lit _ _ (by decide)) _).trans (win1_at m c t e)
  · funext e; exact (congrFun (View.ld_unit_lit _ _ (by decide)) _).trans (win2_at m c t e)
  · funext e f; exact (congrFun (View.ld_unit_lit _ _ (by decide)) _).trans (win3_at m c t e f)
  · funext f e; exact (congrFun (View.ld_unit_lit _ _ (by decide)) _).trans (win4_at m c t f e)

/-- The array of tokens. -/
theorem final8 : (dats m 0 c).arrAt 8 cfg0.N = fun i : S16384x1024.Idx => row m c (i 0) (i 1) := by
  refine Pipeline.Dat.arrAt_eq_of_covers (dats m 0 c) 8 _ (by decide +kernel) fun t hf y => ?_
  blk_simp
  rw [after0_8]
  have key : ∀ y : S512x1024.Idx, out0_8 (F := Ideal) (iblk m c 0 t) (iblk m c 1 t) (iblk m c 2 t) (iblk m c 3 t) (iblk m c 4 t) (iblk m c 5 t) (iblk m c 6 t) (iblk m c 7 t) y
      = row m c (tok t (y 0)) (y 1) := by
    intro y
    idx_vars y
    exact out_at m c t y0 y1
  refine (key y).trans ?_
  congr 1
  all_goals
    ext
    first | (blk_simp [idx t]; done) | (blk_simp [idx t]; unfold tok; dsimp only; omega)

end Cert.Ffn.Ker

end
-- ==== Proof.Ffn.Reference.lean ====
/- The reference's result, read at an index. -/
module

public import proofs.«01_k».proof.Proof.Gen.Reference2Ideal.Run
public import proofs.«01_k».proof.Proof.Ffn.Spec
public import Idealize.ShloMosaic.Lib.Pointwise

@[expose] public section

set_option maxRecDepth 16384

noncomputable section

namespace Cert.Ffn

open Idealize.ShloMosaic Idealize.ShloMosaic.TcCoe Cert.Reference2Ideal Cert.Reference2Ideal.Gen

variable (m : (ℓ : Loc nD τ sig) → Buf (Elt Ideal) ℓ) (c : Dev nD)

/-- The reference's result for token `r`. -/
theorem ref_at (r : Fin 16384) (e : Fin 1024) :
    (Value.res_out0 m c : FVec Ideal S16384x1024 .f32) (ix2 r e)
      = token (fun e => (m ((c.tc : Thread nD τ).loc main_arg0) : FVec Ideal S16384x1024 .f32) (ix2 r e))
          (fun e => (m ((c.tc : Thread nD τ).loc main_arg1) : FVec Ideal S1x1024 .f32) (ix2 0 e))
          (fun e => (m ((c.tc : Thread nD τ).loc main_arg2) : FVec Ideal S1x1024 .f32) (ix2 0 e))
          (fun e f => (m ((c.tc : Thread nD τ).loc main_arg3) : FVec Ideal S1024x4096 .bf16) (ix2 e f))
          (fun f e => (m ((c.tc : Thread nD τ).loc main_arg4) : FVec Ideal S4096x1024 .bf16) (ix2 f e)) e := by
  unfold token norm hidden scale
  pointwise [Value.res_out0, Value.res_main_v31]

end Cert.Ffn

end
-- ==== Proof.Inproj.Spec.lean ====
/- One token's input projections: a norm, then products with the rows of the weights. -/
module

public import proofs.«01_k».proof.Proof.Ffn.Spec

@[expose] public section

noncomputable section

namespace Cert.Inproj

open Idealize.ShloMosaic Cert.Ffn

/-- The normed token's product with a row of the weights. -/
def proj (x g w : Fin 1024 → EReal) : EReal := ∑ e : Fin 1024, norm x g e * w e

/-- The logistic function. -/
def logistic (z : EReal) : EReal := Ideal.div 1 (1 + Ideal.exp (-z))

end Cert.Inproj

end
-- ==== Proof.Merge.Spec.lean ====
/- One token's merge of the three branches: each branch's product times its gate, their sum, the output projection. -/
module

public import proofs.«01_k».proof.Proof.Inproj.Spec

@[expose] public section

noncomputable section

namespace Cert.Merge

open Idealize.ShloMosaic Cert.Ffn Cert.Inproj

/-- A branch's share of a merged entry: the logistic of the gate's product, times the branch's own product. -/
def branch {n : ℕ} (h w : Fin 1024 → EReal) (y v : Fin n → EReal) : EReal :=
  logistic (∑ e : Fin 1024, h e * w e) * ∑ f : Fin n, y f * v f

/-- A merged entry, from the normed token, the three gates' weights, and the branches' outputs and weights. -/
def entry (h wa wb wc : Fin 1024 → EReal) (yp : Fin 512 → EReal) (vp : Fin 512 → EReal) (ym vm : Fin 1024 → EReal) (yx vx : Fin 512 → EReal) :
    EReal :=
  branch h wa yp vp + branch h wb ym vm + branch h wc yx vx

/-- The token after the mixer: the merged entries' projection, normed, on top of the token. -/
def token (x : Fin 1024 → EReal) (gpost : Fin 1024 → EReal) (mg : Fin 1024 → EReal) (wo : Fin 1024 → Fin 1024 → EReal) (e : Fin 1024) : EReal :=
  x e + norm (fun e => ∑ d : Fin 1024, mg d * wo d e) gpost e

end Cert.Merge

end
-- ==== Proof.Merge.Kernel.lean ====
/- The merge's arithmetic for a block of tokens, read at an index: four bands of 256 merged entries, then the projection. -/
module

public import proofs.«01_k».proof.Proof.Gen.Kernel3Ideal.Skeleton
public import proofs.«01_k».proof.Proof.Merge.Spec
public import Idealize.ShloMosaic.Lib.Pointwise

@[expose] public section

set_option maxRecDepth 16384

noncomputable section

namespace Cert.Merge

open Idealize.ShloMosaic Idealize.ShloMosaic.TcCoe Cert.Kernel3Ideal Cert.Kernel3Ideal.Gen Cert.Ffn Cert.Inproj

variable (x : FVec Ideal S128x1024 .f32) (g : FVec Ideal S1x1024 .f32) (yp yx : FVec Ideal S128x512 .bf16) (ym : FVec Ideal S128x1024 .bf16)
  (wa wb wc : FVec Ideal S256x1024 .bf16) (vp vx : FVec Ideal S512x256 .bf16) (vm : FVec Ideal S1024x256 .bf16) (r : Fin 128) (j : Fin 256)

/-- A band's entry in terms of the block's tokens and the band's weights. -/
def band : EReal :=
  entry (norm (fun e => x (ix2 r e)) (fun e => g (ix2 0 e))) (fun e => wa (ix2 j e)) (fun e => wb (ix2 j e)) (fun e => wc (ix2 j e))
    (fun f => yp (ix2 r f)) (fun f => vp (ix2 f j)) (fun f => ym (ix2 r f)) (fun f => vm (ix2 f j)) (fun f => yx (ix2 r f)) (fun f => vx (ix2 f j))

theorem band0_at :
    k0_pay7 (F := Ideal) (k0_pay3 x g) ym yx (k0_pay4 x g yp wa vp) (k0_pay5 x g wb) k0_pay6 vm wc vx (ix2 r j)
      = band x g yp yx ym wa wb wc vp vx vm r j := by
  unfold band entry branch Inproj.logistic Ffn.norm scale
  pointwise [k0_pay7, k0_pay3, k0_pay4, k0_pay5, k0_pay6]
  simp only [zero_sub]

theorem band1_at :
    k0_pay9 (F := Ideal) (k0_pay3 x g) yp ym yx (k0_pay8 (k0_pay3 x g) wa) vp wb vm wc vx (ix2 r j)
      = band x g yp yx ym wa wb wc vp vx vm r j := by
  unfold band entry branch Inproj.logistic Ffn.norm scale
  pointwise [k0_pay9, k0_pay3, k0_pay8]
  simp only [zero_sub]

theorem band2_at :
    k0_pay12 (F := Ideal) (k0_pay10 (k0_pay3 x g) yp ym wa (constant S128x256 .f32 0x00000000#32) vp wb vm) (k0_pay11 (k0_pay3 x g) yx wc vx) (ix2 r j)
      = band x g yp yx ym wa wb wc vp vx vm r j := by
  unfold band entry branch Inproj.logistic Ffn.norm scale
  pointwise [k0_pay12, k0_pay10, k0_pay11, k0_pay3]
  simp only [zero_sub]

theorem band3_at :
    k0_pay1 (F := Ideal) yx (k0_pay13 (k0_pay3 x g) yp ym wa vp wb vm) (k0_pay14 (k0_pay3 x g) wc) vx (ix2 r j)
      = band x g yp yx ym wa wb wc vp vx vm r j := by
  unfold band entry branch Inproj.logistic Ffn.norm scale
  pointwise [k0_pay1, k0_pay13, k0_pay14, k0_pay3]
  simp only [zero_sub]

/-- The projection, its norm and the residual. -/
theorem out_at (M : FVec Ideal S128x1024 .bf16) (wo : FVec Ideal S1024x1024 .bf16) (e : Fin 1024) :
    k0_pay2 (F := Ideal) x M wo g (ix2 r e)
      = token (fun e => x (ix2 r e)) (fun e => g (ix2 0 e)) (fun d => M (ix2 r d)) (fun d e => wo (ix2 d e)) e := by
  unfold token Ffn.norm scale
  pointwise [k0_pay2]

end Cert.Merge

end
-- ==== Proof.Merge.Final.lean ====
/- The tokens after the merge's call. -/
module

public import proofs.«01_k».proof.Proof.Gen.Kernel3Ideal.Value
public import proofs.«01_k».proof.Proof.Merge.Kernel
public import Idealize.ShloMosaic.Lib.Pipeline.ValueKit
public import Idealize.ShloMosaic.Lib.WholeRead

@[expose] public section

set_option maxRecDepth 16384

noncomputable section

namespace Cert.Merge.Ker

open Idealize.ShloMosaic Idealize.ShloMosaic.TcCoe Cert.Kernel3Ideal Cert.Kernel3Ideal.Gen Cert.Ffn

variable (m : (ℓ : Loc nD τ sig) → Buf (Elt Ideal) ℓ) (c : Dev nD)

/-- The gates' weights for entry `d`, `o` the first row of the branch. -/
def gate (o : ℕ) (d e : Fin 1024) (h : o + 1024 ≤ 3072 := by decide) : EReal :=
  (m ((c : Thread nD τ).loc main_arg6) : FVec Ideal S3072x1024 .bf16) (ix2 ⟨o + d, by omega⟩ e)

/-- Token `r`'s merged entry `d`. -/
def merged (r : Fin 128) (d : Fin 1024) : EReal :=
  entry
    (norm (fun e => (m ((c : Thread nD τ).loc main_arg0) : FVec Ideal S128x1024 .f32) (ix2 r e))
      (fun e => (m ((c : Thread nD τ).loc main_arg4) : FVec Ideal S1x1024 .f32) (ix2 0 e)))
    (gate m c 0 d) (gate m c 1024 d) (gate m c 2048 d)
    (fun f => (m ((c : Thread nD τ).loc main_arg1) : FVec Ideal S128x512 .bf16) (ix2 r f))
    (fun f => (m ((c : Thread nD τ).loc main_arg7) : FVec Ideal S512x1024 .bf16) (ix2 f d))
    (fun f => (m ((c : Thread nD τ).loc main_arg2) : FVec Ideal S128x1024 .bf16) (ix2 r f))
    (fun f => (m ((c : Thread nD τ).loc main_arg8) : FVec Ideal S1024x1024 .bf16) (ix2 f d))
    (fun f => (m ((c : Thread nD τ).loc main_arg3) : FVec Ideal S128x512 .bf16) (ix2 r f))
    (fun f => (m ((c : Thread nD τ).loc main_arg9) : FVec Ideal S512x1024 .bf16) (ix2 f d))

/-- Token `r` after the merge. -/
def row (r : Fin 128) (e : Fin 1024) : EReal :=
  token (fun e => (m ((c : Thread nD τ).loc main_arg0) : FVec Ideal S128x1024 .f32) (ix2 r e))
    (fun e => (m ((c : Thread nD τ).loc main_arg5) : FVec Ideal S1x1024 .f32) (ix2 0 e)) (merged m c r)
    (fun d e => (m ((c : Thread nD τ).loc main_arg10) : FVec Ideal S1024x1024 .bf16) (ix2 d e)) e

/-- The grid's one point has every array's first block. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, _)

/-! The blocks are the arrays. -/

theorem win0_at (t : Fin cfg0.N) : (iblk m c 0 t : FVec Ideal S128x1024 .f32) = m ((c : Thread nD τ).loc main_arg0) := by
  funext i; blk_point [iblk, V, idx t]
theorem win1_at (t : Fin cfg0.N) : (iblk m c 1 t : FVec Ideal S128x512 .bf16) = m ((c : Thread nD τ).loc main_arg1) := by
  funext i; blk_point [iblk, V, idx t]
theorem win2_at (t : Fin cfg0.N) : (iblk m c 2 t : FVec Ideal S128x1024 .bf16) = m ((c : Thread nD τ).loc main_arg2) := by
  funext i; blk_point [iblk, V, idx t]
theorem win3_at (t : Fin cfg0.N) : (iblk m c 3 t : FVec Ideal S128x512 .bf16) = m ((c : Thread nD τ).loc main_arg3) := by
  funext i; blk_point [iblk, V, idx t]
theorem win4_at (t : Fin cfg0.N) : (iblk m c 4 t : FVec Ideal S1x1024 .f32) = m ((c : Thread nD τ).loc main_arg4) := by
  funext i; blk_point [iblk, V, idx t]
theorem win5_at (t : Fin cfg0.N) : (iblk m c 5 t : FVec Ideal S1x1024 .f32) = m ((c : Thread nD τ).loc main_arg5) := by
  funext i; blk_point [iblk, V, idx t]
theorem win6_at (t : Fin cfg0.N) : (iblk m c 6 t : FVec Ideal S3072x1024 .bf16) = m ((c : Thread nD τ).loc main_arg6) := by
  funext i; blk_point [iblk, V, idx t]
theorem win7_at (t : Fin cfg0.N) : (iblk m c 7 t : FVec Ideal S512x1024 .bf16) = m ((c : Thread nD τ).loc main_arg7) := by
  funext i; blk_point [iblk, V, idx t]
theorem win8_at (t : Fin cfg0.N) : (iblk m c 8 t : FVec Ideal S1024x1024 .bf16) = m ((c : Thread nD τ).loc main_arg8) := by
  funext i; blk_point [iblk, V, idx t]
theorem win9_at (t : Fin cfg0.N) : (iblk m c 9 t : FVec Ideal S512x1024 .bf16) = m ((c : Thread nD τ).loc main_arg9) := by
  funext i; blk_point [iblk, V, idx t]
theorem win10_at (t : Fin cfg0.N) : (iblk m c 10 t : FVec Ideal S1024x1024 .bf16) = m ((c : Thread nD τ).loc main_arg10) := by
  funext i; blk_point [iblk, V, idx t]

/-- A load of a band of rows and columns, at an index of the band. -/
theorem load_band {e : EltTy} {R C a b : ℕ} {r : Memref sig .tc .vmem (⟨2, ![R, C]⟩ : Shape) e} (hr : r.IsWhole)
    (x : (⟨2, ![R, C]⟩ : Shape).Idx → Elt Ideal e) {o q : ℕ}
    (inb : ∀ d : Fin 2, (![o, q] : Fin 2 → ℕ) d + (![a, b] : Fin 2 → ℕ) d ≤ (![R, C] : Fin 2 → ℕ) d)
    (i : Fin a) (l : Fin b) (O : Fin R) (Q : Fin C) (hO : (O : ℕ) = o + i) (hQ : (Q : ℕ) = q + l) :
    r.view.readAt (Elt Ideal) (Rect.unit (s := (⟨2, ![R, C]⟩ : Shape)) ![o, q] ![a, b] inb).toLoadRect (hr.unread x) (ix2 i l) = x (ix2 O Q) := by
  rw [hr.readAt_unread]
  refine congrArg x (funext fun d => Fin.ext ?_)
  fin_cases d
  · show o + 1 * (i : ℕ) = (O : ℕ); omega
  · show q + 1 * (l : ℕ) = (Q : ℕ); omega

/-- A band's entry, when the blocks it is made of hold the arrays' entries, is the merged entry. -/
theorem band_eq {p : Fin 128} {d : Fin 1024} {l : Fin 256} {X : FVec Ideal S128x1024 .f32} {G : FVec Ideal S1x1024 .f32}
    {YP YX : FVec Ideal S128x512 .bf16} {YM : FVec Ideal S128x1024 .bf16} {WA WB WC : FVec Ideal S256x1024 .bf16} {VP VX : FVec Ideal S512x256 .bf16}
    {VM : FVec Ideal S1024x256 .bf16}
    (hX : ∀ e, X (ix2 p e) = (m ((c : Thread nD τ).loc main_arg0) : FVec Ideal S128x1024 .f32) (ix2 p e))
    (hG : ∀ e, G (ix2 0 e) = (m ((c : Thread nD τ).loc main_arg4) : FVec Ideal S1x1024 .f32) (ix2 0 e))
    (hYP : ∀ f, YP (ix2 p f) = (m ((c : Thread nD τ).loc main_arg1) : FVec Ideal S128x512 .bf16) (ix2 p f))
    (hYX : ∀ f, YX (ix2 p f) = (m ((c : Thread nD τ).loc main_arg3) : FVec Ideal S128x512 .bf16) (ix2 p f))
    (hYM : ∀ f, YM (ix2 p f) = (m ((c : Thread nD τ).loc main_arg2) : FVec Ideal S128x1024 .bf16) (ix2 p f))
    (hWA : ∀ e, WA (ix2 l e) = gate m c 0 d e) (hWB : ∀ e, WB (ix2 l e) = gate m c 1024 d e) (hWC : ∀ e, WC (ix2 l e) = gate m c 2048 d e)
    (hVP : ∀ f, VP (ix2 f l) = (m ((c : Thread nD τ).loc main_arg7) : FVec Ideal S512x1024 .bf16) (ix2 f d))
    (hVX : ∀ f, VX (ix2 f l) = (m ((c : Thread nD τ).loc main_arg9) : FVec Ideal S512x1024 .bf16) (ix2 f d))
    (hVM : ∀ f, VM (ix2 f l) = (m ((c : Thread nD τ).loc main_arg8) : FVec Ideal S1024x1024 .bf16) (ix2 f d)) :
    band X G YP YX YM WA WB WC VP VX VM p l = merged m c p d := by
  unfold band merged
  simp only [hX, hG, hYP, hYX, hYM, hWA, hWB, hWC, hVP, hVX, hVM]

/-- The point's block of tokens. -/
theorem out_at (t : Fin cfg0.N) (p : Fin 128) (j : Fin 1024) : ((outsAt0 m c t) : FVec Ideal S128x1024 .f32) (ix2 p j) = row m c p j := by
  unfold outsAt0
  unfold out0_A_11
  rw [View.read_writes_junk_eq_canon]
  unfold kernelRun0_A
  dsimp only
  canon_tiles x hh
  obtain rfl : x = ix2 p j := by
    funext d; fin_cases d
    · exact Fin.ext (by have := hh0; simpa using this.symm)
    · exact Fin.ext (by have := hh1; simpa using this.symm)
  unfold kernelRun0_A.sl.r
  refine (Merge.out_at _ _ p _ _ j).trans ?_
  unfold row
  congr 1
  · funext e; exact (load_band _ _ _ p e p e (by simp) (by simp)).trans (congrFun (win0_at m c t) _)
  · funext e; exact (load_band _ _ _ 0 e 0 e (by simp) (by simp)).trans (congrFun (win5_at m c t) _)
  · funext d
    unfold kernelRun0_A.sl.v186
    rw [View.readCov_eq_canon']
    dsimp only
    unfold kernelRun0_A.sl.HS0_4
    try unfold kernelRun0_A.sl.HS0_3
    try unfold kernelRun0_A.sl.HS0_2
    try unfold kernelRun0_A.sl.HS0_1
    canon_tiles y hy
    · have hp : 0 + 1 * (p : ℕ) = (y 0 : ℕ) := hy0
      obtain ⟨l, rfl⟩ : ∃ l : Fin 256, y = ix2 p l :=
        ⟨y 1, by
          funext a; fin_cases a
          · exact Fin.ext (by simpa using hp.symm)
          · rfl⟩
      have hd : 0 + 1 * (d : ℕ) = 768 + (l : ℕ) := hy1
      dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
      refine (band3_at _ _ _ _ _ _ _ _ _ _ _ p l).trans (band_eq m c ?_ ?_ ?_ ?_ ?_ ?_ ?_ ?_ ?_ ?_ ?_)
      · intro e; exact (load_band _ _ _ p e p e (by simp) (by simp)).trans (congrFun (win0_at m c t) _)
      · intro e; exact (load_band _ _ _ 0 e 0 e (by simp) (by simp)).trans (congrFun (win4_at m c t) _)
      · intro e; exact (load_band _ _ _ p e p e (by simp) (by simp)).trans (congrFun (win1_at m c t) _)
      · intro e; exact (load_band _ _ _ p e p e (by simp) (by simp)).trans (congrFun (win3_at m c t) _)
      · intro e; exact (load_band _ _ _ p e p e (by simp) (by simp)).trans (congrFun (win2_at m c t) _)
      · intro e; exact (load_band _ _ _ l e ⟨0 + d, by omega⟩ e (by simp only []; omega) (by simp)).trans (congrFun (win6_at m c t) _)
      · intro e; exact (load_band _ _ _ l e ⟨1024 + d, by omega⟩ e (by simp only []; omega) (by simp)).trans (congrFun (win6_at m c t) _)
      · intro e; exact (load_band _ _ _ l e ⟨2048 + d, by omega⟩ e (by simp only []; omega) (by simp)).trans (congrFun (win6_at m c t) _)
      · intro e; exact (load_band _ _ _ e l e d (by simp) (by omega)).trans (congrFun (win7_at m c t) _)
      · intro e; exact (load_band _ _ _ e l e d (by simp) (by omega)).trans (congrFun (win9_at m c t) _)
      · intro e; exact (load_band _ _ _ e l e d (by simp) (by omega)).trans (congrFun (win8_at m c t) _)
    · have hp : 0 + 1 * (p : ℕ) = (y 0 : ℕ) := hy0
      obtain ⟨l, rfl⟩ : ∃ l : Fin 256, y = ix2 p l :=
        ⟨y 1, by
          funext a; fin_cases a
          · exact Fin.ext (by simpa using hp.symm)
          · rfl⟩
      have hd : 0 + 1 * (d : ℕ) = 512 + (l : ℕ) := hy1
      dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
      refine (band2_at _ _ _ _ _ _ _ _ _ _ _ p l).trans (band_eq m c ?_ ?_ ?_ ?_ ?_ ?_ ?_ ?_ ?_ ?_ ?_)
      · intro e; exact (load_band _ _ _ p e p e (by simp) (by simp)).trans (congrFun (win0_at m c t) _)
      · intro e; exact (load_band _ _ _ 0 e 0 e (by simp) (by simp)).trans (congrFun (win4_at m c t) _)
      · intro e; exact (load_band _ _ _ p e p e (by simp) (by simp)).trans (congrFun (win1_at m c t) _)
      · intro e; exact (load_band _ _ _ p e p e (by simp) (by simp)).trans (congrFun (win3_at m c t) _)
      · intro e; exact (load_band _ _ _ p e p e (by simp) (by simp)).trans (congrFun (win2_at m c t) _)
      · intro e; exact (load_band _ _ _ l e ⟨0 + d, by omega⟩ e (by simp only []; omega) (by simp)).trans (congrFun (win6_at m c t) _)
      · intro e; exact (load_band _ _ _ l e ⟨1024 + d, by omega⟩ e (by simp only []; omega) (by simp)).trans (congrFun (win6_at m c t) _)
      · intro e; exact (load_band _ _ _ l e ⟨2048 + d, by omega⟩ e (by simp only []; omega) (by simp)).trans (congrFun (win6_at m c t) _)
      · intro e; exact (load_band _ _ _ e l e d (by simp) (by omega)).trans (congrFun (win7_at m c t) _)
      · intro e; exact (load_band _ _ _ e l e d (by simp) (by omega)).trans (congrFun (win9_at m c t) _)
      · intro e; exact (load_band _ _ _ e l e d (by simp) (by omega)).trans (congrFun (win8_at m c t) _)
    · have hp : 0 + 1 * (p : ℕ) = (y 0 : ℕ) := hy0
      obtain ⟨l, rfl⟩ : ∃ l : Fin 256, y = ix2 p l :=
        ⟨y 1, by
          funext a; fin_cases a
          · exact Fin.ext (by simpa using hp.symm)
          · rfl⟩
      have hd : 0 + 1 * (d : ℕ) = 256 + (l : ℕ) := hy1
      dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
      refine (band1_at _ _ _ _ _ _ _ _ _ _ _ p l).trans (band_eq m c ?_ ?_ ?_ ?_ ?_ ?_ ?_ ?_ ?_ ?_ ?_)
      · intro e; exact (load_band _ _ _ p e p e (by simp) (by simp)).trans (congrFun (win0_at m c t) _)
      · intro e; exact (load_band _ _ _ 0 e 0 e (by simp) (by simp)).trans (congrFun (win4_at m c t) _)
      · intro e; exact (load_band _ _ _ p e p e (by simp) (by simp)).trans (congrFun (win1_at m c t) _)
      · intro e; exact (load_band _ _ _ p e p e (by simp) (by simp)).trans (congrFun (win3_at m c t) _)
      · intro e; exact (load_band _ _ _ p e p e (by simp) (by simp)).trans (congrFun (win2_at m c t) _)
      · intro e; exact (load_band _ _ _ l e ⟨0 + d, by omega⟩ e (by simp only []; omega) (by simp)).trans (congrFun (win6_at m c t) _)
      · intro e; exact (load_band _ _ _ l e ⟨1024 + d, by omega⟩ e (by simp only []; omega) (by simp)).trans (congrFun (win6_at m c t) _)
      · intro e; exact (load_band _ _ _ l e ⟨2048 + d, by omega⟩ e (by simp only []; omega) (by simp)).trans (congrFun (win6_at m c t) _)
      · intro e; exact (load_band _ _ _ e l e d (by simp) (by omega)).trans (congrFun (win7_at m c t) _)
      · intro e; exact (load_band _ _ _ e l e d (by simp) (by omega)).trans (congrFun (win9_at m c t) _)
      · intro e; exact (load_band _ _ _ e l e d (by simp) (by omega)).trans (congrFun (win8_at m c t) _)
    · have hp : 0 + 1 * (p : ℕ) = (y 0 : ℕ) := hy0
      obtain ⟨l, rfl⟩ : ∃ l : Fin 256, y = ix2 p l :=
        ⟨y 1, by
          funext a; fin_cases a
          · exact Fin.ext (by simpa using hp.symm)
          · rfl⟩
      have hd : 0 + 1 * (d : ℕ) = (l : ℕ) := hy1
      dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
      refine (band0_at _ _ _ _ _ _ _ _ _ _ _ p l).trans (band_eq m c ?_ ?_ ?_ ?_ ?_ ?_ ?_ ?_ ?_ ?_ ?_)
      · intro e; exact (load_band _ _ _ p e p e (by simp) (by simp)).trans (congrFun (win0_at m c t) _)
      · intro e; exact (load_band _ _ _ 0 e 0 e (by simp) (by simp)).trans (congrFun (win4_at m c t) _)
      · intro e; exact (load_band _ _ _ p e p e (by simp) (by simp)).trans (congrFun (win1_at m c t) _)
      · intro e; exact (load_band _ _ _ p e p e (by simp) (by simp)).trans (congrFun (win3_at m c t) _)
      · intro e; exact (load_band _ _ _ p e p e (by simp) (by simp)).trans (congrFun (win2_at m c t) _)
      · intro e; exact (load_band _ _ _ l e ⟨0 + d, by omega⟩ e (by simp only []; omega) (by simp)).trans (congrFun (win6_at m c t) _)
      · intro e; exact (load_band _ _ _ l e ⟨1024 + d, by omega⟩ e (by simp only []; omega) (by simp)).trans (congrFun (win6_at m c t) _)
      · intro e; exact (load_band _ _ _ l e ⟨2048 + d, by omega⟩ e (by simp only []; omega) (by simp)).trans (congrFun (win6_at m c t) _)
      · intro e; exact (load_band _ _ _ e l e d (by simp) (by omega)).trans (congrFun (win7_at m c t) _)
      · intro e; exact (load_band _ _ _ e l e d (by simp) (by omega)).trans (congrFun (win9_at m c t) _)
      · intro e; exact (load_band _ _ _ e l e d (by simp) (by omega)).trans (congrFun (win8_at m c t) _)
  · funext d e; exact (load_band _ _ _ d e d e (by simp) (by simp)).trans (congrFun (win10_at m c t) _)

/-- The array of tokens. -/
theorem final11 : (dats m 0 c).arrAt 11 cfg0.N = fun i : S128x1024.Idx => row m c (i 0) (i 1) := by
  refine Pipeline.Dat.arrAt_eq_of_covers (dats m 0 c) 11 _ (by decide +kernel) fun t hf y => ?_
  blk_simp
  rw [after0_11]
  have key : ∀ y : S128x1024.Idx, (outsAt0 m c t : FVec Ideal S128x1024 .f32) y = row m c (y 0) (y 1) := by
    intro y
    idx_vars y
    exact out_at m c t y0 y1
  refine (key y).trans ?_
  congr 1
  all_goals
    ext
    first | (blk_simp [idx t]; done) | (blk_simp [idx t]; omega)

end Cert.Merge.Ker

end
-- ==== Proof.Merge.Reference.lean ====
/- The merge's reference, its result read at an index. -/
module

public import proofs.«01_k».proof.Proof.Gen.Reference3Ideal.Run
public import proofs.«01_k».proof.Proof.Merge.Spec
public import Idealize.ShloMosaic.Lib.Pointwise

@[expose] public section

set_option maxRecDepth 16384

noncomputable section

namespace Cert.Merge.Ref

open Idealize.ShloMosaic Idealize.ShloMosaic.TcCoe Cert.Reference3Ideal Cert.Reference3Ideal.Gen Cert.Ffn

variable (m : (ℓ : Loc nD τ sig) → Buf (Elt Ideal) ℓ) (c : Dev nD)

/-- The gates' weights for entry `d`, `o` the first row of the branch. -/
def gate (o : ℕ) (d e : Fin 1024) (h : o + 1024 ≤ 3072 := by decide) : EReal :=
  (m ((c.tc : Thread nD τ).loc main_arg6) : FVec Ideal S3072x1024 .bf16) (ix2 ⟨o + d, by omega⟩ e)

/-- Token `r`'s merged entry `d`. -/
def merged (r : Fin 128) (d : Fin 1024) : EReal :=
  entry
    (norm (fun e => (m ((c.tc : Thread nD τ).loc main_arg0) : FVec Ideal S128x1024 .f32) (ix2 r e))
      (fun e => (m ((c.tc : Thread nD τ).loc main_arg4) : FVec Ideal S1x1024 .f32) (ix2 0 e)))
    (gate m c 0 d) (gate m c 1024 d) (gate m c 2048 d)
    (fun f => (m ((c.tc : Thread nD τ).loc main_arg1) : FVec Ideal S128x512 .bf16) (ix2 r f))
    (fun f => (m ((c.tc : Thread nD τ).loc main_arg7) : FVec Ideal S512x1024 .bf16) (ix2 f d))
    (fun f => (m ((c.tc : Thread nD τ).loc main_arg2) : FVec Ideal S128x1024 .bf16) (ix2 r f))
    (fun f => (m ((c.tc : Thread nD τ).loc main_arg8) : FVec Ideal S1024x1024 .bf16) (ix2 f d))
    (fun f => (m ((c.tc : Thread nD τ).loc main_arg3) : FVec Ideal S128x512 .bf16) (ix2 r f))
    (fun f => (m ((c.tc : Thread nD τ).loc main_arg9) : FVec Ideal S512x1024 .bf16) (ix2 f d))

/-- The reference's result for token `r`. -/
theorem ref_at (r : Fin 128) (e : Fin 1024) :
    (Value.res_main_v56 m c : FVec Ideal S128x1024 .f32) (ix2 r e)
      = token (fun e => (m ((c.tc : Thread nD τ).loc main_arg0) : FVec Ideal S128x1024 .f32) (ix2 r e))
          (fun e => (m ((c.tc : Thread nD τ).loc main_arg5) : FVec Ideal S1x1024 .f32) (ix2 0 e))
          (merged m c r)
          (fun d e => (m ((c.tc : Thread nD τ).loc main_arg10) : FVec Ideal S1024x1024 .bf16) (ix2 d e)) e := by
  unfold token merged entry branch gate Inproj.logistic Ffn.norm scale
  pointwise [Value.res_main_v56]

end Cert.Merge.Ref

end
-- ==== Proof.Inproj.Kernel.lean ====
/- The kernel's arithmetic for a block of tokens, read at an index. -/
module

public import proofs.«01_k».proof.Proof.Gen.Kernel4Ideal.Skeleton
public import proofs.«01_k».proof.Proof.Inproj.Spec
public import Idealize.ShloMosaic.Lib.Pointwise

@[expose] public section

set_option maxRecDepth 16384

noncomputable section

namespace Cert.Inproj

open Idealize.ShloMosaic Idealize.ShloMosaic.TcCoe Cert.Kernel4Ideal Cert.Kernel4Ideal.Gen Cert.Ffn

variable (x : FVec Ideal S512x1024 .f32) (g : FVec Ideal S1x1024 .f32) (r : Fin 512)

/-- The product that the pooling's inputs are. -/
theorem pool_at (w : FVec Ideal S512x1024 .bf16) (j : Fin 512) :
    k0_pay15 (F := Ideal) g (k0_pay13 x) w (ix2 r j) = proj (fun e => x (ix2 r e)) (fun e => g (ix2 0 e)) (fun e => w (ix2 j e)) := by
  unfold proj Ffn.norm scale
  pointwise [k0_pay15, k0_pay14, k0_pay13]

theorem query_at (w : FVec Ideal S1024x1024 .bf16) (j : Fin 1024) :
    k0_pay16 (F := Ideal) g (k0_pay13 x) w (ix2 r j) = proj (fun e => x (ix2 r e)) (fun e => g (ix2 0 e)) (fun e => w (ix2 j e)) := by
  unfold proj Ffn.norm scale
  pointwise [k0_pay16, k0_pay14, k0_pay13]

theorem key_at (w : FVec Ideal S1024x1024 .bf16) (j : Fin 1024) :
    k0_pay17 (F := Ideal) g (k0_pay13 x) w (ix2 r j)
      = proj (fun e => x (ix2 r e)) (fun e => g (ix2 0 e)) (fun e => w (ix2 j e)) * Ideal.ofBits .f32 0x3D800000#32 := by
  unfold proj Ffn.norm scale
  pointwise [k0_pay17, k0_pay14, k0_pay13]

theorem value_at (w : FVec Ideal S1024x1024 .bf16) (j : Fin 1024) :
    k0_pay18 (F := Ideal) g (k0_pay13 x) w (ix2 r j) = proj (fun e => x (ix2 r e)) (fun e => g (ix2 0 e)) (fun e => w (ix2 j e)) := by
  unfold proj Ffn.norm scale
  pointwise [k0_pay18, k0_pay14, k0_pay13]

theorem gate_at (w : FVec Ideal S1024x1024 .bf16) (j : Fin 1024) :
    k0_pay19 (F := Ideal) g (k0_pay13 x) w (ix2 r j) = logistic (proj (fun e => x (ix2 r e)) (fun e => g (ix2 0 e)) (fun e => w (ix2 j e))) := by
  unfold logistic proj Ffn.norm scale
  pointwise [k0_pay19, k0_pay14, k0_pay13]
  rw [zero_sub]

theorem xq_at (w : FVec Ideal S512x1024 .bf16) (j : Fin 512) :
    k0_pay1 (F := Ideal) (k0_pay14 g (k0_pay13 x)) w (ix2 r j) = proj (fun e => x (ix2 r e)) (fun e => g (ix2 0 e)) (fun e => w (ix2 j e)) := by
  unfold proj Ffn.norm scale
  pointwise [k0_pay1, k0_pay14, k0_pay13]

theorem gif_at (w : FVec Ideal S128x1024 .bf16) (j : Fin 8) :
    k0_pay3 (F := Ideal) (k0_pay14 g (k0_pay13 x)) w (ix2 r j)
      = proj (fun e => x (ix2 r e)) (fun e => g (ix2 0 e)) (fun e => w (ix2 (⟨j, by omega⟩ : Fin 128) e)) := by
  unfold proj Ffn.norm scale
  pointwise [k0_pay3, k0_pay2, k0_pay14, k0_pay13]

theorem gif0_at (w : FVec Ideal S128x1024 .bf16) (j : Fin 8) (l : Fin 128) :
    k0_pay4 (F := Ideal) (k0_pay14 g (k0_pay13 x)) w (ix2 j l)
      = proj (fun e => x (ix2 (⟨l, by omega⟩ : Fin 512) e)) (fun e => g (ix2 0 e)) (fun e => w (ix2 (⟨j, by omega⟩ : Fin 128) e)) := by
  unfold proj Ffn.norm scale
  pointwise [k0_pay4, k0_pay2, k0_pay14, k0_pay13]

theorem gif1_at (w : FVec Ideal S128x1024 .bf16) (j : Fin 8) (l : Fin 128) :
    k0_pay5 (F := Ideal) (k0_pay14 g (k0_pay13 x)) w (ix2 j l)
      = proj (fun e => x (ix2 (⟨128 + l, by omega⟩ : Fin 512) e)) (fun e => g (ix2 0 e)) (fun e => w (ix2 (⟨j, by omega⟩ : Fin 128) e)) := by
  unfold proj Ffn.norm scale
  pointwise [k0_pay5, k0_pay2, k0_pay14, k0_pay13]

theorem gif2_at (w : FVec Ideal S128x1024 .bf16) (j : Fin 8) (l : Fin 128) :
    k0_pay6 (F := Ideal) (k0_pay14 g (k0_pay13 x)) w (ix2 j l)
      = proj (fun e => x (ix2 (⟨256 + l, by omega⟩ : Fin 512) e)) (fun e => g (ix2 0 e)) (fun e => w (ix2 (⟨j, by omega⟩ : Fin 128) e)) := by
  unfold proj Ffn.norm scale
  pointwise [k0_pay6, k0_pay2, k0_pay14, k0_pay13]

theorem gif3_at (w : FVec Ideal S128x1024 .bf16) (j : Fin 8) (l : Fin 128) :
    k0_pay7 (F := Ideal) (k0_pay14 g (k0_pay13 x)) w (ix2 j l)
      = proj (fun e => x (ix2 (⟨384 + l, by omega⟩ : Fin 512) e)) (fun e => g (ix2 0 e)) (fun e => w (ix2 (⟨j, by omega⟩ : Fin 128) e)) := by
  unfold proj Ffn.norm scale
  pointwise [k0_pay7, k0_pay2, k0_pay14, k0_pay13]

end Cert.Inproj

end
-- ==== Proof.Inproj.Final.lean ====
/- The kernel's results after the call. -/
module

public import proofs.«01_k».proof.Proof.Gen.Kernel4Ideal.Value
public import proofs.«01_k».proof.Proof.Inproj.Kernel
public import Idealize.ShloMosaic.Lib.Pipeline.ValueKit
public import Idealize.ShloMosaic.Lib.WholeRead

@[expose] public section

set_option maxRecDepth 16384

noncomputable section

namespace Cert.Inproj.Ker

open Idealize.ShloMosaic Idealize.ShloMosaic.TcCoe Cert.Kernel4Ideal Cert.Kernel4Ideal.Gen

/-- The blocks' numbers at every point: point `t` has the tokens from `512 * t` on and the whole weights. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![0, t.val] ∧ win0_17.index t = ![t.val, 0] ∧ t.val < 32 :=
  (by decide +kernel : ∀ t : Fin grid0.N, _)

variable (m : (ℓ : Loc nD τ sig) → Buf (Elt Ideal) ℓ) (c : Dev nD)

/-- The row of the main weights that a result's column `j` comes from, `o` the first. -/
def col (o : ℕ) {n : ℕ} (j : Fin n) (h : o + n ≤ 5128 := by decide) : Fin 5128 := ⟨o + j, by omega⟩

/-- The normed token `r`'s product with row `j` of the main weights. -/
def main (r : Fin 16384) (j : Fin 5128) : EReal :=
  proj (fun e => (m ((c : Thread nD τ).loc main_arg0) : FVec Ideal S16384x1024 .f32) (ix2 r e))
    (fun e => (m ((c : Thread nD τ).loc main_arg1) : FVec Ideal S1x1024 .f32) (ix2 0 e))
    (fun e => (m ((c : Thread nD τ).loc main_arg2) : FVec Ideal S5128x1024 .bf16) (ix2 j e))

/-- With row `j` of the weights of the attention's queries. -/
def xq (r : Fin 16384) (j : Fin 512) : EReal :=
  proj (fun e => (m ((c : Thread nD τ).loc main_arg0) : FVec Ideal S16384x1024 .f32) (ix2 r e))
    (fun e => (m ((c : Thread nD τ).loc main_arg1) : FVec Ideal S1x1024 .f32) (ix2 0 e))
    (fun e => (m ((c : Thread nD τ).loc main_arg3) : FVec Ideal S512x1024 .bf16) (ix2 j e))

/-- With row `j` of the weights of the gates. -/
def gif (r : Fin 16384) (j : Fin 8) : EReal :=
  proj (fun e => (m ((c : Thread nD τ).loc main_arg0) : FVec Ideal S16384x1024 .f32) (ix2 r e))
    (fun e => (m ((c : Thread nD τ).loc main_arg1) : FVec Ideal S1x1024 .f32) (ix2 0 e))
    (fun e => (m ((c : Thread nD τ).loc main_arg4) : FVec Ideal S128x1024 .bf16) (ix2 (⟨j, by omega⟩ : Fin 128) e))

/-- The token of a point's block. -/
def tok (t : Fin cfg0.N) (p : Fin 512) : Fin 16384 := ⟨512 * t.val + p, by have := (idx t).2.2.2.2.2.2.2.2.2.2.2.2.2; omega⟩

theorem win0_at (t : Fin cfg0.N) (p : Fin 512) (e : Fin 1024) :
    (iblk m c 0 t : FVec Ideal S512x1024 .f32) (ix2 p e) = (m ((c : Thread nD τ).loc main_arg0) : FVec Ideal S16384x1024 .f32) (ix2 (tok t p) e) := by
  have := (idx t).2.2.2.2.2.2.2.2.2.2.2.2.2
  unfold tok
  blk_point [iblk, V, idx t]

theorem win1_at (t : Fin cfg0.N) (e : Fin 1024) :
    (iblk m c 1 t : FVec Ideal S1x1024 .f32) (ix2 0 e) = (m ((c : Thread nD τ).loc main_arg1) : FVec Ideal S1x1024 .f32) (ix2 0 e) := by
  blk_point [iblk, V, idx t]

theorem win2_at (t : Fin cfg0.N) (j : Fin 4608) (k : Fin 5128) (hk : k = ⟨j, by omega⟩) (e : Fin 1024) :
    (X0_2 m c t : FVec Ideal S4608x1024 .bf16) (ix2 j e) = (m ((c : Thread nD τ).loc main_arg2) : FVec Ideal S5128x1024 .bf16) (ix2 k e) := by
  subst hk
  unfold X0_2 Pipeline.Window.fill
  rw [dif_pos (moved0_2 t _)]
  blk_point [iblk, V, idx t]

theorem win3_at (t : Fin cfg0.N) (j : Fin 512) (e : Fin 1024) :
    (iblk m c 3 t : FVec Ideal S512x1024 .bf16) (ix2 j e) = (m ((c : Thread nD τ).loc main_arg3) : FVec Ideal S512x1024 .bf16) (ix2 j e) := by
  blk_point [iblk, V, idx t]

theorem win4_at (t : Fin cfg0.N) (j : Fin 128) (e : Fin 1024) :
    (iblk m c 4 t : FVec Ideal S128x1024 .bf16) (ix2 j e) = (m ((c : Thread nD τ).loc main_arg4) : FVec Ideal S128x1024 .bf16) (ix2 j e) := by
  blk_point [iblk, V, idx t]

/-- A load of `a` rows from row `o` on, all their entries, reads entry `e` of row `o + i`. -/
theorem load_rows {e : EltTy} {R C a : ℕ} {r : Memref sig .tc .vmem (⟨2, ![R, C]⟩ : Shape) e} (hr : r.IsWhole) (x : (⟨2, ![R, C]⟩ : Shape).Idx → Elt Ideal e)
    {o : ℕ} (inb : ∀ d : Fin 2, (![o, 0] : Fin 2 → ℕ) d + (![a, C] : Fin 2 → ℕ) d ≤ (![R, C] : Fin 2 → ℕ) d)
    (i : Fin a) (l : Fin C) (O : Fin R) (hO : (O : ℕ) = o + i) :
    r.view.readAt (Elt Ideal) (Rect.unit (s := (⟨2, ![R, C]⟩ : Shape)) ![o, 0] ![a, C] inb).toLoadRect (hr.unread x) (ix2 i l) = x (ix2 O l) := by
  rw [hr.readAt_unread]
  refine congrArg x (funext fun d => Fin.ext ?_)
  fin_cases d
  · show o + 1 * (i : ℕ) = (O : ℕ); omega
  · show 0 + 1 * (l : ℕ) = (l : ℕ); omega

/-- What a point leaves in its block of the pooling's inputs. -/
theorem out10_at (t : Fin cfg0.N) (p : Fin 512) (j : Fin 512) :
    ((outsAt0 m c t).1 : FVec Ideal S512x512 .f32) (ix2 p j) = main m c (tok t p) (col 0 j) := by
  unfold outsAt0
  dsimp only
  unfold out0_A_10
  rw [View.read_writes_junk_eq_canon]
  unfold kernelRun0_A
  dsimp only
  canon_tiles x hh
  obtain rfl : x = ix2 p j := by
    funext d; fin_cases d
    · exact Fin.ext (by have := hh0; simpa using this.symm)
    · exact Fin.ext (by have := hh1; simpa using this.symm)
  unfold kernelRun0_A.sl.r kernelRun0_A.sl.r_1
  refine (pool_at _ _ p _ j).trans ?_
  unfold main
  congr 1 <;> funext e
  · exact (load_rows _ _ _ p e p (by simp)).trans (win0_at m c t p e)
  · exact (load_rows _ _ _ 0 e 0 (by simp)).trans (win1_at m c t e)
  · exact (load_rows _ _ _ j e ⟨0 + j, by omega⟩ (by simp)).trans (win2_at m c t ⟨0 + j, by omega⟩ (col 0 j) rfl e)

/-- In its block of queries. -/
theorem out11_at (t : Fin cfg0.N) (p : Fin 512) (j : Fin 1024) :
    ((outsAt0 m c t).2.1 : FVec Ideal S512x1024 .bf16) (ix2 p j) = main m c (tok t p) (col 512 j) := by
  unfold outsAt0
  dsimp only
  unfold out0_A_11
  rw [View.read_writes_junk_eq_canon]
  unfold kernelRun0_A
  dsimp only
  canon_tiles x hh
  obtain rfl : x = ix2 p j := by
    funext d; fin_cases d
    · exact Fin.ext (by have := hh0; simpa using this.symm)
    · exact Fin.ext (by have := hh1; simpa using this.symm)
  unfold kernelRun0_A.sl.r kernelRun0_A.sl.r_1
  refine (query_at _ _ p _ j).trans ?_
  unfold main
  congr 1 <;> funext e
  · exact (load_rows _ _ _ p e p (by simp)).trans (win0_at m c t p e)
  · exact (load_rows _ _ _ 0 e 0 (by simp)).trans (win1_at m c t e)
  · exact (load_rows _ _ _ j e ⟨512 + j, by omega⟩ (by simp)).trans (win2_at m c t ⟨512 + j, by omega⟩ (col 512 j) rfl e)

/-- In its block of keys, which are scaled. -/
theorem out12_at (t : Fin cfg0.N) (p : Fin 512) (j : Fin 1024) :
    ((outsAt0 m c t).2.2.1 : FVec Ideal S512x1024 .bf16) (ix2 p j) = main m c (tok t p) (col 1536 j) * Ideal.ofBits .f32 0x3D800000#32 := by
  unfold outsAt0
  dsimp only
  unfold out0_A_12
  rw [View.read_writes_junk_eq_canon]
  unfold kernelRun0_A
  dsimp only
  canon_tiles x hh
  obtain rfl : x = ix2 p j := by
    funext d; fin_cases d
    · exact Fin.ext (by have := hh0; simpa using this.symm)
    · exact Fin.ext (by have := hh1; simpa using this.symm)
  unfold kernelRun0_A.sl.r kernelRun0_A.sl.r_1
  refine (key_at _ _ p _ j).trans ?_
  unfold main
  congr 2 <;> funext e
  · exact (load_rows _ _ _ p e p (by simp)).trans (win0_at m c t p e)
  · exact (load_rows _ _ _ 0 e 0 (by simp)).trans (win1_at m c t e)
  · exact (load_rows _ _ _ j e ⟨1536 + j, by omega⟩ (by simp)).trans (win2_at m c t ⟨1536 + j, by omega⟩ (col 1536 j) rfl e)

/-- In its block of values. -/
theorem out13_at (t : Fin cfg0.N) (p : Fin 512) (j : Fin 1024) :
    ((outsAt0 m c t).2.2.2.1 : FVec Ideal S512x1024 .bf16) (ix2 p j) = main m c (tok t p) (col 2560 j) := by
  unfold outsAt0
  dsimp only
  unfold out0_A_13
  rw [View.read_writes_junk_eq_canon]
  unfold kernelRun0_A
  dsimp only
  canon_tiles x hh
  obtain rfl : x = ix2 p j := by
    funext d; fin_cases d
    · exact Fin.ext (by have := hh0; simpa using this.symm)
    · exact Fin.ext (by have := hh1; simpa using this.symm)
  unfold kernelRun0_A.sl.r kernelRun0_A.sl.r_1
  refine (value_at _ _ p _ j).trans ?_
  unfold main
  congr 1 <;> funext e
  · exact (load_rows _ _ _ p e p (by simp)).trans (win0_at m c t p e)
  · exact (load_rows _ _ _ 0 e 0 (by simp)).trans (win1_at m c t e)
  · exact (load_rows _ _ _ j e ⟨2560 + j, by omega⟩ (by simp)).trans (win2_at m c t ⟨2560 + j, by omega⟩ (col 2560 j) rfl e)

/-- In its block of output gates. -/
theorem out14_at (t : Fin cfg0.N) (p : Fin 512) (j : Fin 1024) :
    ((outsAt0 m c t).2.2.2.2.1 : FVec Ideal S512x1024 .f32) (ix2 p j) = logistic (main m c (tok t p) (col 3584 j)) := by
  unfold outsAt0
  dsimp only
  unfold out0_A_14
  rw [View.read_writes_junk_eq_canon]
  unfold kernelRun0_A
  dsimp only
  canon_tiles x hh
  obtain rfl : x = ix2 p j := by
    funext d; fin_cases d
    · exact Fin.ext (by have := hh0; simpa using this.symm)
    · exact Fin.ext (by have := hh1; simpa using this.symm)
  unfold kernelRun0_A.sl.r_3 kernelRun0_A.sl.r kernelRun0_A.sl.r_1
  refine (gate_at _ _ p _ j).trans ?_
  unfold main
  congr 2 <;> funext e
  · exact (load_rows _ _ _ p e p (by simp)).trans (win0_at m c t p e)
  · exact (load_rows _ _ _ 0 e 0 (by simp)).trans (win1_at m c t e)
  · exact (load_rows _ _ _ j e ⟨3584 + j, by omega⟩ (by simp)).trans (win2_at m c t ⟨3584 + j, by omega⟩ (col 3584 j) rfl e)

/-- In its block of the attention's queries. -/
theorem out15_at (t : Fin cfg0.N) (p : Fin 512) (j : Fin 512) :
    ((outsAt0 m c t).2.2.2.2.2.1 : FVec Ideal S512x512 .bf16) (ix2 p j) = xq m c (tok t p) j := by
  unfold outsAt0
  dsimp only
  unfold out0_A_15
  rw [View.read_writes_junk_eq_canon]
  unfold kernelRun0_A
  dsimp only
  canon_tiles x hh
  obtain rfl : x = ix2 p j := by
    funext d; fin_cases d
    · exact Fin.ext (by have := hh0; simpa using this.symm)
    · exact Fin.ext (by have := hh1; simpa using this.symm)
  unfold kernelRun0_A.sl.r_2
  refine (xq_at _ _ p _ j).trans ?_
  unfold xq
  congr 1 <;> funext e
  · exact (load_rows _ _ _ p e p (by simp)).trans (win0_at m c t p e)
  · exact (load_rows _ _ _ 0 e 0 (by simp)).trans (win1_at m c t e)
  · exact (load_rows _ _ _ j e j (by simp)).trans (win3_at m c t j e)

set_option maxHeartbeats 1000000 in
/-- In its block of gates, the gates along the rows. -/
theorem out16_at (t : Fin cfg0.N) (p : Fin 512) (j : Fin 8) :
    ((outsAt0 m c t).2.2.2.2.2.2.1 : FVec Ideal S8x512 .f32) (ix2 j p) = gif m c (tok t p) j := by
  unfold outsAt0
  dsimp only
  unfold out0_A_16
  rw [View.read_writes_junk_eq_canon]
  unfold kernelRun0_A
  dsimp only
  canon_tiles x hh
  · obtain ⟨l, rfl⟩ : ∃ l : Fin 128, x = ix2 j l :=
      ⟨x 1, by
        funext d; fin_cases d
        · exact Fin.ext (by have := hh0; simpa using this.symm)
        · rfl⟩
    have hp : (p : ℕ) = 384 + l := by simpa using hh1
    unfold kernelRun0_A.sl.r_2
    refine (gif3_at _ _ _ j l).trans ?_
    unfold gif
    congr 1 <;> funext e
    · exact (load_rows _ _ _ _ e p (by simpa using hp)).trans (win0_at m c t p e)
    · exact (load_rows _ _ _ 0 e 0 (by simp)).trans (win1_at m c t e)
    · exact (load_rows _ _ _ _ e ⟨j, by omega⟩ (by simp)).trans (win4_at m c t _ e)
  · obtain ⟨l, rfl⟩ : ∃ l : Fin 128, x = ix2 j l :=
      ⟨x 1, by
        funext d; fin_cases d
        · exact Fin.ext (by have := hh0; simpa using this.symm)
        · rfl⟩
    have hp : (p : ℕ) = 256 + l := by simpa using hh1
    unfold kernelRun0_A.sl.r_2
    refine (gif2_at _ _ _ j l).trans ?_
    unfold gif
    congr 1 <;> funext e
    · exact (load_rows _ _ _ _ e p (by simpa using hp)).trans (win0_at m c t p e)
    · exact (load_rows _ _ _ 0 e 0 (by simp)).trans (win1_at m c t e)
    · exact (load_rows _ _ _ _ e ⟨j, by omega⟩ (by simp)).trans (win4_at m c t _ e)
  · obtain ⟨l, rfl⟩ : ∃ l : Fin 128, x = ix2 j l :=
      ⟨x 1, by
        funext d; fin_cases d
        · exact Fin.ext (by have := hh0; simpa using this.symm)
        · rfl⟩
    have hp : (p : ℕ) = 128 + l := by simpa using hh1
    unfold kernelRun0_A.sl.r_2
    refine (gif1_at _ _ _ j l).trans ?_
    unfold gif
    congr 1 <;> funext e
    · exact (load_rows _ _ _ _ e p (by simpa using hp)).trans (win0_at m c t p e)
    · exact (load_rows _ _ _ 0 e 0 (by simp)).trans (win1_at m c t e)
    · exact (load_rows _ _ _ _ e ⟨j, by omega⟩ (by simp)).trans (win4_at m c t _ e)
  · obtain ⟨l, rfl⟩ : ∃ l : Fin 128, x = ix2 j l :=
      ⟨x 1, by
        funext d; fin_cases d
        · exact Fin.ext (by have := hh0; simpa using this.symm)
        · rfl⟩
    have hp : (p : ℕ) = 0 + l := by simpa using hh1
    unfold kernelRun0_A.sl.r_2
    refine (gif0_at _ _ _ j l).trans ?_
    unfold gif
    congr 1 <;> funext e
    · exact (load_rows _ _ _ _ e p (by simpa using hp)).trans (win0_at m c t p e)
    · exact (load_rows _ _ _ 0 e 0 (by simp)).trans (win1_at m c t e)
    · exact (load_rows _ _ _ _ e ⟨j, by omega⟩ (by simp)).trans (win4_at m c t _ e)

/-- In its block of gates, the gates along the columns. -/
theorem out17_at (t : Fin cfg0.N) (p : Fin 512) (j : Fin 8) :
    ((outsAt0 m c t).2.2.2.2.2.2.2.1 : FVec Ideal S512x8 .f32) (ix2 p j) = gif m c (tok t p) j := by
  unfold outsAt0
  dsimp only
  unfold out0_A_17
  rw [View.read_writes_junk_eq_canon]
  unfold kernelRun0_A
  dsimp only
  canon_tiles x hh
  obtain rfl : x = ix2 p j := by
    funext d; fin_cases d
    · exact Fin.ext (by have := hh0; simpa using this.symm)
    · exact Fin.ext (by have := hh1; simpa using this.symm)
  unfold kernelRun0_A.sl.r_2
  refine (gif_at _ _ p _ j).trans ?_
  unfold gif
  congr 1 <;> funext e
  · exact (load_rows _ _ _ p e p (by simp)).trans (win0_at m c t p e)
  · exact (load_rows _ _ _ 0 e 0 (by simp)).trans (win1_at m c t e)
  · exact (load_rows _ _ _ _ e ⟨j, by omega⟩ (by simp)).trans (win4_at m c t _ e)

/-- The grid's blocks cover the array of window 10, and each is what its point leaves. -/
theorem final10 : (dats m 0 c).arrAt 10 cfg0.N = fun i : S16384x512.Idx => main m c (i 0) (col 0 (i 1)) := by
  refine Pipeline.Dat.arrAt_eq_of_covers (dats m 0 c) 10 _ (by decide +kernel) fun t hf y => ?_
  blk_simp
  rw [after0_10]
  have key : ∀ y : S512x512.Idx, ((outsAt0 m c t).1 : FVec Ideal S512x512 .f32) y = main m c (tok t (y 0)) (col 0 (y 1)) := by
    intro y
    idx_vars y
    exact out10_at m c t y0 y1
  refine (key y).trans ?_
  congr 1
  all_goals
    ext
    first
      | (blk_simp [idx t]; done)
      | (blk_simp [idx t]; unfold tok; dsimp only; omega)
      | (unfold col; dsimp only; congr 1; blk_simp [idx t]; done)
      | (unfold col; dsimp only; blk_simp [idx t]; omega)

/-- The grid's blocks cover the array of window 11, and each is what its point leaves. -/
theorem final11 : (dats m 0 c).arrAt 11 cfg0.N = fun i : S16384x1024.Idx => main m c (i 0) (col 512 (i 1)) := by
  refine Pipeline.Dat.arrAt_eq_of_covers (dats m 0 c) 11 _ (by decide +kernel) fun t hf y => ?_
  blk_simp
  rw [after0_11]
  have key : ∀ y : S512x1024.Idx, ((outsAt0 m c t).2.1 : FVec Ideal S512x1024 .bf16) y = main m c (tok t (y 0)) (col 512 (y 1)) := by
    intro y
    idx_vars y
    exact out11_at m c t y0 y1
  refine (key y).trans ?_
  congr 1
  all_goals
    ext
    first
      | (blk_simp [idx t]; done)
      | (blk_simp [idx t]; unfold tok; dsimp only; omega)
      | (unfold col; dsimp only; congr 1; blk_simp [idx t]; done)
      | (unfold col; dsimp only; blk_simp [idx t]; omega)

/-- The grid's blocks cover the array of window 12, and each is what its point leaves. -/
theorem final12 : (dats m 0 c).arrAt 12 cfg0.N = fun i : S16384x1024.Idx => main m c (i 0) (col 1536 (i 1)) * Ideal.ofBits .f32 0x3D800000#32 := by
  refine Pipeline.Dat.arrAt_eq_of_covers (dats m 0 c) 12 _ (by decide +kernel) fun t hf y => ?_
  blk_simp
  rw [after0_12]
  have key : ∀ y : S512x1024.Idx, ((outsAt0 m c t).2.2.1 : FVec Ideal S512x1024 .bf16) y = main m c (tok t (y 0)) (col 1536 (y 1)) * Ideal.ofBits .f32 0x3D800000#32 := by
    intro y
    idx_vars y
    exact out12_at m c t y0 y1
  refine (key y).trans ?_
  congr 2
  all_goals
    ext
    first
      | (blk_simp [idx t]; done)
      | (blk_simp [idx t]; unfold tok; dsimp only; omega)
      | (unfold col; dsimp only; congr 1; blk_simp [idx t]; done)
      | (unfold col; dsimp only; blk_simp [idx t]; omega)

/-- The grid's blocks cover the array of window 13, and each is what its point leaves. -/
theorem final13 : (dats m 0 c).arrAt 13 cfg0.N = fun i : S16384x1024.Idx => main m c (i 0) (col 2560 (i 1)) := by
  refine Pipeline.Dat.arrAt_eq_of_covers (dats m 0 c) 13 _ (by decide +kernel) fun t hf y => ?_
  blk_simp
  rw [after0_13]
  have key : ∀ y : S512x1024.Idx, ((outsAt0 m c t).2.2.2.1 : FVec Ideal S512x1024 .bf16) y = main m c (tok t (y 0)) (col 2560 (y 1)) := by
    intro y
    idx_vars y
    exact out13_at m c t y0 y1
  refine (key y).trans ?_
  congr 1
  all_goals
    ext
    first
      | (blk_simp [idx t]; done)
      | (blk_simp [idx t]; unfold tok; dsimp only; omega)
      | (unfold col; dsimp only; congr 1; blk_simp [idx t]; done)
      | (unfold col; dsimp only; blk_simp [idx t]; omega)

/-- The grid's blocks cover the array of window 14, and each is what its point leaves. -/
theorem final14 : (dats m 0 c).arrAt 14 cfg0.N = fun i : S16384x1024.Idx => logistic (main m c (i 0) (col 3584 (i 1))) := by
  refine Pipeline.Dat.arrAt_eq_of_covers (dats m 0 c) 14 _ (by decide +kernel) fun t hf y => ?_
  blk_simp
  rw [after0_14]
  have key : ∀ y : S512x1024.Idx, ((outsAt0 m c t).2.2.2.2.1 : FVec Ideal S512x1024 .f32) y = logistic (main m c (tok t (y 0)) (col 3584 (y 1))) := by
    intro y
    idx_vars y
    exact out14_at m c t y0 y1
  refine (key y).trans ?_
  congr 2
  all_goals
    ext
    first
      | (blk_simp [idx t]; done)
      | (blk_simp [idx t]; unfold tok; dsimp only; omega)
      | (unfold col; dsimp only; congr 1; blk_simp [idx t]; done)
      | (unfold col; dsimp only; blk_simp [idx t]; omega)

/-- The grid's blocks cover the array of window 15, and each is what its point leaves. -/
theorem final15 : (dats m 0 c).arrAt 15 cfg0.N = fun i : S16384x512.Idx => xq m c (i 0) (i 1) := by
  refine Pipeline.Dat.arrAt_eq_of_covers (dats m 0 c) 15 _ (by decide +kernel) fun t hf y => ?_
  blk_simp
  rw [after0_15]
  have key : ∀ y : S512x512.Idx, ((outsAt0 m c t).2.2.2.2.2.1 : FVec Ideal S512x512 .bf16) y = xq m c (tok t (y 0)) (y 1) := by
    intro y
    idx_vars y
    exact out15_at m c t y0 y1
  refine (key y).trans ?_
  congr 1
  all_goals
    ext
    first
      | (blk_simp [idx t]; done)
      | (blk_simp [idx t]; unfold tok; dsimp only; omega)
      | (unfold col; dsimp only; congr 1; blk_simp [idx t]; done)
      | (unfold col; dsimp only; blk_simp [idx t]; omega)

/-- The grid's blocks cover the array of window 16, and each is what its point leaves. -/
theorem final16 : (dats m 0 c).arrAt 16 cfg0.N = fun i : S8x16384.Idx => gif m c (i 1) (i 0) := by
  refine Pipeline.Dat.arrAt_eq_of_covers (dats m 0 c) 16 _ (by decide +kernel) fun t hf y => ?_
  blk_simp
  rw [after0_16]
  have key : ∀ y : S8x512.Idx, ((outsAt0 m c t).2.2.2.2.2.2.1 : FVec Ideal S8x512 .f32) y = gif m c (tok t (y 1)) (y 0) := by
    intro y
    idx_vars y
    exact out16_at m c t y1 y0
  refine (key y).trans ?_
  congr 1
  all_goals
    ext
    first
      | (blk_simp [idx t]; done)
      | (blk_simp [idx t]; unfold tok; dsimp only; omega)
      | (unfold col; dsimp only; congr 1; blk_simp [idx t]; done)
      | (unfold col; dsimp only; blk_simp [idx t]; omega)

/-- The grid's blocks cover the array of window 17, and each is what its point leaves. -/
theorem final17 : (dats m 0 c).arrAt 17 cfg0.N = fun i : S16384x8.Idx => gif m c (i 0) (i 1) := by
  refine Pipeline.Dat.arrAt_eq_of_covers (dats m 0 c) 17 _ (by decide +kernel) fun t hf y => ?_
  blk_simp
  rw [after0_17]
  have key : ∀ y : S512x8.Idx, ((outsAt0 m c t).2.2.2.2.2.2.2.1 : FVec Ideal S512x8 .f32) y = gif m c (tok t (y 0)) (y 1) := by
    intro y
    idx_vars y
    exact out17_at m c t y0 y1
  refine (key y).trans ?_
  congr 1
  all_goals
    ext
    first
      | (blk_simp [idx t]; done)
      | (blk_simp [idx t]; unfold tok; dsimp only; omega)
      | (unfold col; dsimp only; congr 1; blk_simp [idx t]; done)
      | (unfold col; dsimp only; blk_simp [idx t]; omega)

end Cert.Inproj.Ker

end
-- ==== Proof.Inproj.Reference.lean ====
/- The reference's results, read at an index. -/
module

public import proofs.«01_k».proof.Proof.Gen.Reference4Ideal.Run
public import proofs.«01_k».proof.Proof.Inproj.Spec
public import Idealize.ShloMosaic.Lib.Pointwise
public import Idealize.ShloMosaic.Adequacy

@[expose] public section

set_option maxRecDepth 16384

noncomputable section

namespace Cert.Inproj.Ref

open Idealize.ShloMosaic Idealize.ShloMosaic.TcCoe Cert.Reference4Ideal Cert.Reference4Ideal.Gen Cert.Ffn

variable (m : (ℓ : Loc nD τ sig) → Buf (Elt Ideal) ℓ) (c : Dev nD)

/-- The row of the main weights that a result's column `j` comes from, `o` the first. -/
def col (o : ℕ) {n : ℕ} (j : Fin n) (h : o + n ≤ 5128 := by decide) : Fin 5128 := ⟨o + j, by omega⟩

/-- The normed token `r`'s product with row `j` of the main weights. -/
def main (r : Fin 16384) (j : Fin 5128) : EReal :=
  proj (fun e => (m ((c.tc : Thread nD τ).loc main_arg0) : FVec Ideal S16384x1024 .f32) (ix2 r e))
    (fun e => (m ((c.tc : Thread nD τ).loc main_arg1) : FVec Ideal S1x1024 .f32) (ix2 0 e))
    (fun e => (m ((c.tc : Thread nD τ).loc main_arg2) : FVec Ideal S5128x1024 .bf16) (ix2 j e))

/-- With row `j` of the weights of the attention's queries. -/
def xq (r : Fin 16384) (j : Fin 512) : EReal :=
  proj (fun e => (m ((c.tc : Thread nD τ).loc main_arg0) : FVec Ideal S16384x1024 .f32) (ix2 r e))
    (fun e => (m ((c.tc : Thread nD τ).loc main_arg1) : FVec Ideal S1x1024 .f32) (ix2 0 e))
    (fun e => (m ((c.tc : Thread nD τ).loc main_arg3) : FVec Ideal S512x1024 .bf16) (ix2 j e))

/-- With row `j` of the weights of the gates. -/
def gif (r : Fin 16384) (j : Fin 8) : EReal :=
  proj (fun e => (m ((c.tc : Thread nD τ).loc main_arg0) : FVec Ideal S16384x1024 .f32) (ix2 r e))
    (fun e => (m ((c.tc : Thread nD τ).loc main_arg1) : FVec Ideal S1x1024 .f32) (ix2 0 e))
    (fun e => (m ((c.tc : Thread nD τ).loc main_arg4) : FVec Ideal S128x1024 .bf16) (ix2 (⟨j, by omega⟩ : Fin 128) e))

set_option maxHeartbeats 2000000 in
/-- What the reference returns; its arguments stay as they were. -/
theorem run (ρ : Dev nD → PrngReg) :
    θ_run defs (onTc (τ := τ) (Reference4Ideal.main (F := Ideal))) ⟨m, fun _ => 0, ρ⟩ fun r => ∀ c : Dev nD,
      (r.2.mem ((c.tc : Thread nD τ).loc main_v28) : FVec Ideal S16384x512 .f32) = (fun i : S16384x512.Idx => main m c (i 0) (col 0 (i 1)))
      ∧ (r.2.mem ((c.tc : Thread nD τ).loc main_v29) : FVec Ideal S16384x1024 .bf16) = (fun i : S16384x1024.Idx => main m c (i 0) (col 512 (i 1)))
      ∧ (r.2.mem ((c.tc : Thread nD τ).loc main_v30) : FVec Ideal S16384x1024 .bf16)
        = (fun i : S16384x1024.Idx => main m c (i 0) (col 1536 (i 1)) * Ideal.ofBits .f32 0x3D800000#32)
      ∧ (r.2.mem ((c.tc : Thread nD τ).loc main_v31) : FVec Ideal S16384x1024 .bf16) = (fun i : S16384x1024.Idx => main m c (i 0) (col 2560 (i 1)))
      ∧ (r.2.mem ((c.tc : Thread nD τ).loc main_v38) : FVec Ideal S16384x1024 .f32)
        = (fun i : S16384x1024.Idx => logistic (main m c (i 0) (col 3584 (i 1))))
      ∧ (r.2.mem ((c.tc : Thread nD τ).loc main_v39) : FVec Ideal S16384x512 .bf16) = (fun i : S16384x512.Idx => xq m c (i 0) (i 1))
      ∧ (r.2.mem ((c.tc : Thread nD τ).loc main_v40) : FVec Ideal S8x16384 .f32) = (fun i : S8x16384.Idx => gif m c (i 1) (i 0))
      ∧ (r.2.mem ((c.tc : Thread nD τ).loc main_v19) : FVec Ideal S16384x8 .f32) = (fun i : S16384x8.Idx => gif m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2.1.trans ?_, (h c).2.2.2.2.2.2.2.2⟩)
    (Value.run m ρ)
  all_goals
    funext i
    idx_vars i
    first | unfold main | unfold xq | unfold gif
    try unfold logistic
    unfold proj Ffn.norm scale
    try unfold col
    pointwise []

end Cert.Inproj.Ref

end
-- ==== Proof.MergeAll.Kernel.lean ====
/- The prompt's merge for a block of tokens, read at an index: four bands of 256 merged entries, then the projection. -/
module

public import proofs.«01_k».proof.Proof.Gen.Kernel5Ideal.Skeleton
public import proofs.«01_k».proof.Proof.Merge.Spec
public import Idealize.ShloMosaic.Lib.Pointwise

@[expose] public section

set_option maxRecDepth 16384

noncomputable section

namespace Cert.MergeAll

open Idealize.ShloMosaic Idealize.ShloMosaic.TcCoe Cert.Kernel5Ideal Cert.Kernel5Ideal.Gen Cert.Ffn Cert.Inproj Cert.Merge

variable (x : FVec Ideal S512x1024 .f32) (g : FVec Ideal S1x1024 .f32) (yp yx : FVec Ideal S512x512 .bf16) (ym : FVec Ideal S512x1024 .bf16)
  (wa wb wc : FVec Ideal S256x1024 .bf16) (vp vx : FVec Ideal S512x256 .bf16) (vm : FVec Ideal S1024x256 .bf16) (r : Fin 512) (j : Fin 256)

/-- A band's entry in terms of the block's tokens and the band's weights. -/
def band : EReal :=
  entry (norm (fun e => x (ix2 r e)) (fun e => g (ix2 0 e))) (fun e => wa (ix2 j e)) (fun e => wb (ix2 j e)) (fun e => wc (ix2 j e))
    (fun f => yp (ix2 r f)) (fun f => vp (ix2 f j)) (fun f => ym (ix2 r f)) (fun f => vm (ix2 f j)) (fun f => yx (ix2 r f)) (fun f => vx (ix2 f j))

theorem band0_at :
    k0_pay7 (F := Ideal) (k0_pay3 x g) ym yx (k0_pay4 x g yp wa vp) (k0_pay5 x g wb) k0_pay6 vm wc vx (ix2 r j)
      = band x g yp yx ym wa wb wc vp vx vm r j := by
  unfold band entry branch Inproj.logistic Ffn.norm scale
  pointwise [k0_pay7, k0_pay3, k0_pay4, k0_pay5, k0_pay6]
  simp only [zero_sub]

theorem band1_at :
    k0_pay9 (F := Ideal) (k0_pay3 x g) yp ym yx (k0_pay8 (k0_pay3 x g) wa) vp wb vm wc vx (ix2 r j)
      = band x g yp yx ym wa wb wc vp vx vm r j := by
  unfold band entry branch Inproj.logistic Ffn.norm scale
  pointwise [k0_pay9, k0_pay3, k0_pay8]
  simp only [zero_sub]

theorem band2_at :
    k0_pay12 (F := Ideal) (k0_pay10 (k0_pay3 x g) yp ym wa (constant S512x256 .f32 0x00000000#32) vp wb vm) (k0_pay11 (k0_pay3 x g) yx wc vx) (ix2 r j)
      = band x g yp yx ym wa wb wc vp vx vm r j := by
  unfold band entry branch Inproj.logistic Ffn.norm scale
  pointwise [k0_pay12, k0_pay10, k0_pay11, k0_pay3]
  simp only [zero_sub]

theorem band3_at :
    k0_pay1 (F := Ideal) yx (k0_pay13 (k0_pay3 x g) yp ym wa vp wb vm) (k0_pay14 (k0_pay3 x g) wc) vx (ix2 r j)
      = band x g yp yx ym wa wb wc vp vx vm r j := by
  unfold band entry branch Inproj.logistic Ffn.norm scale
  pointwise [k0_pay1, k0_pay13, k0_pay14, k0_pay3]
  simp only [zero_sub]

/-- The projection, its norm and the residual. -/
theorem out_at (M : FVec Ideal S512x1024 .bf16) (wo : FVec Ideal S1024x1024 .bf16) (e : Fin 1024) :
    k0_pay2 (F := Ideal) x M wo g (ix2 r e)
      = Merge.token (fun e => x (ix2 r e)) (fun e => g (ix2 0 e)) (fun d => M (ix2 r d)) (fun d e => wo (ix2 d e)) e := by
  unfold Merge.token Ffn.norm scale
  pointwise [k0_pay2]

end Cert.MergeAll

end
-- ==== Proof.MergeAll.Final.lean ====
/- The prompt's tokens after its merge, from the points' blocks. -/
module

public import proofs.«01_k».proof.Proof.Gen.Kernel5Ideal.Value
public import proofs.«01_k».proof.Proof.MergeAll.Kernel
public import Idealize.ShloMosaic.Lib.Pipeline.ValueKit
public import Idealize.ShloMosaic.Lib.WholeRead

@[expose] public section

set_option maxRecDepth 16384

noncomputable section

namespace Cert.MergeAll.Ker

open Idealize.ShloMosaic Idealize.ShloMosaic.TcCoe Cert.Kernel5Ideal Cert.Kernel5Ideal.Gen Cert.Ffn Cert.Merge

variable (m : (ℓ : Loc nD τ sig) → Buf (Elt Ideal) ℓ) (c : Dev nD)

/-- The gates' weights for entry `d`, `o` the first row of the branch. -/
def gate (o : ℕ) (d e : Fin 1024) (h : o + 1024 ≤ 3072 := by decide) : EReal :=
  (m ((c : Thread nD τ).loc main_arg6) : FVec Ideal S3072x1024 .bf16) (ix2 ⟨o + d, by omega⟩ e)

/-- Token `r`'s merged entry `d`. -/
def merged (r : Fin 16384) (d : Fin 1024) : EReal :=
  entry
    (norm (fun e => (m ((c : Thread nD τ).loc main_arg0) : FVec Ideal S16384x1024 .f32) (ix2 r e))
      (fun e => (m ((c : Thread nD τ).loc main_arg4) : FVec Ideal S1x1024 .f32) (ix2 0 e)))
    (gate m c 0 d) (gate m c 1024 d) (gate m c 2048 d)
    (fun f => (m ((c : Thread nD τ).loc main_arg1) : FVec Ideal S16384x512 .bf16) (ix2 r f))
    (fun f => (m ((c : Thread nD τ).loc main_arg7) : FVec Ideal S512x1024 .bf16) (ix2 f d))
    (fun f => (m ((c : Thread nD τ).loc main_arg2) : FVec Ideal S16384x1024 .bf16) (ix2 r f))
    (fun f => (m ((c : Thread nD τ).loc main_arg8) : FVec Ideal S1024x1024 .bf16) (ix2 f d))
    (fun f => (m ((c : Thread nD τ).loc main_arg3) : FVec Ideal S16384x512 .bf16) (ix2 r f))
    (fun f => (m ((c : Thread nD τ).loc main_arg9) : FVec Ideal S512x1024 .bf16) (ix2 f d))

/-- Token `r` after the merge. -/
def row (r : Fin 16384) (e : Fin 1024) : EReal :=
  Merge.token (fun e => (m ((c : Thread nD τ).loc main_arg0) : FVec Ideal S16384x1024 .f32) (ix2 r e))
    (fun e => (m ((c : Thread nD τ).loc main_arg5) : FVec Ideal S1x1024 .f32) (ix2 0 e)) (merged m c r)
    (fun d e => (m ((c : Thread nD τ).loc main_arg10) : FVec Ideal S1024x1024 .bf16) (ix2 d e)) e

/-- The blocks' numbers: point `t` has the tokens from `512 * t` on and the whole weights. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0] ∧ t.val < 32 :=
  (by decide +kernel : ∀ t : Fin grid0.N, _)

/-- The token of a point's block. -/
def tok (t : Fin cfg0.N) (p : Fin 512) : Fin 16384 := ⟨512 * t.val + p, by have := (idx t).2.2.2.2.2.2.2.2.2.2.2.2; omega⟩

/-! The blocks of tokens, at an index, and the blocks of weights, which are the arrays. -/

theorem win0_at (t : Fin cfg0.N) (p : Fin 512) (e : Fin 1024) : (iblk m c 0 t : FVec Ideal S512x1024 .f32) (ix2 p e)
    = (m ((c : Thread nD τ).loc main_arg0) : FVec Ideal S16384x1024 .f32) (ix2 (tok t p) e) := by
  have := (idx t).2.2.2.2.2.2.2.2.2.2.2.2
  unfold tok
  blk_point [iblk, V, idx t]
theorem win1_at (t : Fin cfg0.N) (p : Fin 512) (e : Fin 512) : (iblk m c 1 t : FVec Ideal S512x512 .bf16) (ix2 p e)
    = (m ((c : Thread nD τ).loc main_arg1) : FVec Ideal S16384x512 .bf16) (ix2 (tok t p) e) := by
  have := (idx t).2.2.2.2.2.2.2.2.2.2.2.2
  unfold tok
  blk_point [iblk, V, idx t]
theorem win2_at (t : Fin cfg0.N) (p : Fin 512) (e : Fin 1024) : (iblk m c 2 t : FVec Ideal S512x1024 .bf16) (ix2 p e)
    = (m ((c : Thread nD τ).loc main_arg2) : FVec Ideal S16384x1024 .bf16) (ix2 (tok t p) e) := by
  have := (idx t).2.2.2.2.2.2.2.2.2.2.2.2
  unfold tok
  blk_point [iblk, V, idx t]
theorem win3_at (t : Fin cfg0.N) (p : Fin 512) (e : Fin 512) : (iblk m c 3 t : FVec Ideal S512x512 .bf16) (ix2 p e)
    = (m ((c : Thread nD τ).loc main_arg3) : FVec Ideal S16384x512 .bf16) (ix2 (tok t p) e) := by
  have := (idx t).2.2.2.2.2.2.2.2.2.2.2.2
  unfold tok
  blk_point [iblk, V, idx t]
theorem win4_at (t : Fin cfg0.N) : (iblk m c 4 t : FVec Ideal S1x1024 .f32) = m ((c : Thread nD τ).loc main_arg4) := by
  funext i; blk_point [iblk, V, idx t]
theorem win5_at (t : Fin cfg0.N) : (iblk m c 5 t : FVec Ideal S1x1024 .f32) = m ((c : Thread nD τ).loc main_arg5) := by
  funext i; blk_point [iblk, V, idx t]
theorem win6_at (t : Fin cfg0.N) : (iblk m c 6 t : FVec Ideal S3072x1024 .bf16) = m ((c : Thread nD τ).loc main_arg6) := by
  funext i; blk_point [iblk, V, idx t]
theorem win7_at (t : Fin cfg0.N) : (iblk m c 7 t : FVec Ideal S512x1024 .bf16) = m ((c : Thread nD τ).loc main_arg7) := by
  funext i; blk_point [iblk, V, idx t]
theorem win8_at (t : Fin cfg0.N) : (iblk m c 8 t : FVec Ideal S1024x1024 .bf16) = m ((c : Thread nD τ).loc main_arg8) := by
  funext i; blk_point [iblk, V, idx t]
theorem win9_at (t : Fin cfg0.N) : (iblk m c 9 t : FVec Ideal S512x1024 .bf16) = m ((c : Thread nD τ).loc main_arg9) := by
  funext i; blk_point [iblk, V, idx t]
theorem win10_at (t : Fin cfg0.N) : (iblk m c 10 t : FVec Ideal S1024x1024 .bf16) = m ((c : Thread nD τ).loc main_arg10) := by
  funext i; blk_point [iblk, V, idx t]

/-- A load of a band of rows and columns, at an index of the band. -/
theorem load_band {e : EltTy} {R C a b : ℕ} {r : Memref sig .tc .vmem (⟨2, ![R, C]⟩ : Shape) e} (hr : r.IsWhole)
    (x : (⟨2, ![R, C]⟩ : Shape).Idx → Elt Ideal e) {o q : ℕ}
    (inb : ∀ d : Fin 2, (![o, q] : Fin 2 → ℕ) d + (![a, b] : Fin 2 → ℕ) d ≤ (![R, C] : Fin 2 → ℕ) d)
    (i : Fin a) (l : Fin b) (O : Fin R) (Q : Fin C) (hO : (O : ℕ) = o + i) (hQ : (Q : ℕ) = q + l) :
    r.view.readAt (Elt Ideal) (Rect.unit (s := (⟨2, ![R, C]⟩ : Shape)) ![o, q] ![a, b] inb).toLoadRect (hr.unread x) (ix2 i l) = x (ix2 O Q) := by
  rw [hr.readAt_unread]
  refine congrArg x (funext fun d => Fin.ext ?_)
  fin_cases d
  · show o + 1 * (i : ℕ) = (O : ℕ); omega
  · show q + 1 * (l : ℕ) = (Q : ℕ); omega

/-- A band's entry, when the blocks it is made of hold the arrays' entries, is the merged entry. -/
theorem band_eq {p : Fin 512} {q : Fin 16384} {d : Fin 1024} {l : Fin 256} {X : FVec Ideal S512x1024 .f32} {G : FVec Ideal S1x1024 .f32}
    {YP YX : FVec Ideal S512x512 .bf16} {YM : FVec Ideal S512x1024 .bf16} {WA WB WC : FVec Ideal S256x1024 .bf16} {VP VX : FVec Ideal S512x256 .bf16}
    {VM : FVec Ideal S1024x256 .bf16}
    (hX : ∀ e, X (ix2 p e) = (m ((c : Thread nD τ).loc main_arg0) : FVec Ideal S16384x1024 .f32) (ix2 q e))
    (hG : ∀ e, G (ix2 0 e) = (m ((c : Thread nD τ).loc main_arg4) : FVec Ideal S1x1024 .f32) (ix2 0 e))
    (hYP : ∀ f, YP (ix2 p f) = (m ((c : Thread nD τ).loc main_arg1) : FVec Ideal S16384x512 .bf16) (ix2 q f))
    (hYX : ∀ f, YX (ix2 p f) = (m ((c : Thread nD τ).loc main_arg3) : FVec Ideal S16384x512 .bf16) (ix2 q f))
    (hYM : ∀ f, YM (ix2 p f) = (m ((c : Thread nD τ).loc main_arg2) : FVec Ideal S16384x1024 .bf16) (ix2 q f))
    (hWA : ∀ e, WA (ix2 l e) = gate m c 0 d e) (hWB : ∀ e, WB (ix2 l e) = gate m c 1024 d e) (hWC : ∀ e, WC (ix2 l e) = gate m c 2048 d e)
    (hVP : ∀ f, VP (ix2 f l) = (m ((c : Thread nD τ).loc main_arg7) : FVec Ideal S512x1024 .bf16) (ix2 f d))
    (hVX : ∀ f, VX (ix2 f l) = (m ((c : Thread nD τ).loc main_arg9) : FVec Ideal S512x1024 .bf16) (ix2 f d))
    (hVM : ∀ f, VM (ix2 f l) = (m ((c : Thread nD τ).loc main_arg8) : FVec Ideal S1024x1024 .bf16) (ix2 f d)) :
    band X G YP YX YM WA WB WC VP VX VM p l = merged m c q d := by
  unfold band merged
  simp only [hX, hG, hYP, hYX, hYM, hWA, hWB, hWC, hVP, hVX, hVM]

/-- The point's block of tokens. -/
theorem out_at (t : Fin cfg0.N) (p : Fin 512) (j : Fin 1024) : ((outsAt0 m c t) : FVec Ideal S512x1024 .f32) (ix2 p j) = row m c (tok t p) j := by
  unfold outsAt0
  unfold out0_A_11
  rw [View.read_writes_junk_eq_canon]
  unfold kernelRun0_A
  dsimp only
  canon_tiles x hh
  obtain rfl : x = ix2 p j := by
    funext d; fin_cases d
    · exact Fin.ext (by have := hh0; simpa using this.symm)
    · exact Fin.ext (by have := hh1; simpa using this.symm)
  unfold kernelRun0_A.sl.r
  refine (MergeAll.out_at _ _ p _ _ j).trans ?_
  unfold row
  congr 1
  · funext e; exact (load_band _ _ _ p e p e (by simp) (by simp)).trans (win0_at m c t p e)
  · funext e; exact (load_band _ _ _ 0 e 0 e (by simp) (by simp)).trans (congrFun (win5_at m c t) _)
  · funext d
    unfold kernelRun0_A.sl.v186
    rw [View.readCov_eq_canon']
    dsimp only
    unfold kernelRun0_A.sl.HS0_4
    try unfold kernelRun0_A.sl.HS0_3
    try unfold kernelRun0_A.sl.HS0_2
    try unfold kernelRun0_A.sl.HS0_1
    canon_tiles y hy
    · have hp : 0 + 1 * (p : ℕ) = (y 0 : ℕ) := hy0
      obtain ⟨l, rfl⟩ : ∃ l : Fin 256, y = ix2 p l :=
        ⟨y 1, by
          funext a; fin_cases a
          · exact Fin.ext (by simpa using hp.symm)
          · rfl⟩
      have hd : 0 + 1 * (d : ℕ) = 768 + (l : ℕ) := hy1
      dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
      refine (band3_at _ _ _ _ _ _ _ _ _ _ _ p l).trans (band_eq m c ?_ ?_ ?_ ?_ ?_ ?_ ?_ ?_ ?_ ?_ ?_)
      · intro e; exact (load_band _ _ _ p e p e (by simp) (by simp)).trans (win0_at m c t p e)
      · intro e; exact (load_band _ _ _ 0 e 0 e (by simp) (by simp)).trans (congrFun (win4_at m c t) _)
      · intro e; exact (load_band _ _ _ p e p e (by simp) (by simp)).trans (win1_at m c t p e)
      · intro e; exact (load_band _ _ _ p e p e (by simp) (by simp)).trans (win3_at m c t p e)
      · intro e; exact (load_band _ _ _ p e p e (by simp) (by simp)).trans (win2_at m c t p e)
      · intro e; exact (load_band _ _ _ l e ⟨0 + d, by omega⟩ e (by simp only []; omega) (by simp)).trans (congrFun (win6_at m c t) _)
      · intro e; exact (load_band _ _ _ l e ⟨1024 + d, by omega⟩ e (by simp only []; omega) (by simp)).trans (congrFun (win6_at m c t) _)
      · intro e; exact (load_band _ _ _ l e ⟨2048 + d, by omega⟩ e (by simp only []; omega) (by simp)).trans (congrFun (win6_at m c t) _)
      · intro e; exact (load_band _ _ _ e l e d (by simp) (by omega)).trans (congrFun (win7_at m c t) _)
      · intro e; exact (load_band _ _ _ e l e d (by simp) (by omega)).trans (congrFun (win9_at m c t) _)
      · intro e; exact (load_band _ _ _ e l e d (by simp) (by omega)).trans (congrFun (win8_at m c t) _)
    · have hp : 0 + 1 * (p : ℕ) = (y 0 : ℕ) := hy0
      obtain ⟨l, rfl⟩ : ∃ l : Fin 256, y = ix2 p l :=
        ⟨y 1, by
          funext a; fin_cases a
          · exact Fin.ext (by simpa using hp.symm)
          · rfl⟩
      have hd : 0 + 1 * (d : ℕ) = 512 + (l : ℕ) := hy1
      dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
      refine (band2_at _ _ _ _ _ _ _ _ _ _ _ p l).trans (band_eq m c ?_ ?_ ?_ ?_ ?_ ?_ ?_ ?_ ?_ ?_ ?_)
      · intro e; exact (load_band _ _ _ p e p e (by simp) (by simp)).trans (win0_at m c t p e)
      · intro e; exact (load_band _ _ _ 0 e 0 e (by simp) (by simp)).trans (congrFun (win4_at m c t) _)
      · intro e; exact (load_band _ _ _ p e p e (by simp) (by simp)).trans (win1_at m c t p e)
      · intro e; exact (load_band _ _ _ p e p e (by simp) (by simp)).trans (win3_at m c t p e)
      · intro e; exact (load_band _ _ _ p e p e (by simp) (by simp)).trans (win2_at m c t p e)
      · intro e; exact (load_band _ _ _ l e ⟨0 + d, by omega⟩ e (by simp only []; omega) (by simp)).trans (congrFun (win6_at m c t) _)
      · intro e; exact (load_band _ _ _ l e ⟨1024 + d, by omega⟩ e (by simp only []; omega) (by simp)).trans (congrFun (win6_at m c t) _)
      · intro e; exact (load_band _ _ _ l e ⟨2048 + d, by omega⟩ e (by simp only []; omega) (by simp)).trans (congrFun (win6_at m c t) _)
      · intro e; exact (load_band _ _ _ e l e d (by simp) (by omega)).trans (congrFun (win7_at m c t) _)
      · intro e; exact (load_band _ _ _ e l e d (by simp) (by omega)).trans (congrFun (win9_at m c t) _)
      · intro e; exact (load_band _ _ _ e l e d (by simp) (by omega)).trans (congrFun (win8_at m c t) _)
    · have hp : 0 + 1 * (p : ℕ) = (y 0 : ℕ) := hy0
      obtain ⟨l, rfl⟩ : ∃ l : Fin 256, y = ix2 p l :=
        ⟨y 1, by
          funext a; fin_cases a
          · exact Fin.ext (by simpa using hp.symm)
          · rfl⟩
      have hd : 0 + 1 * (d : ℕ) = 256 + (l : ℕ) := hy1
      dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
      refine (band1_at _ _ _ _ _ _ _ _ _ _ _ p l).trans (band_eq m c ?_ ?_ ?_ ?_ ?_ ?_ ?_ ?_ ?_ ?_ ?_)
      · intro e; exact (load_band _ _ _ p e p e (by simp) (by simp)).trans (win0_at m c t p e)
      · intro e; exact (load_band _ _ _ 0 e 0 e (by simp) (by simp)).trans (congrFun (win4_at m c t) _)
      · intro e; exact (load_band _ _ _ p e p e (by simp) (by simp)).trans (win1_at m c t p e)
      · intro e; exact (load_band _ _ _ p e p e (by simp) (by simp)).trans (win3_at m c t p e)
      · intro e; exact (load_band _ _ _ p e p e (by simp) (by simp)).trans (win2_at m c t p e)
      · intro e; exact (load_band _ _ _ l e ⟨0 + d, by omega⟩ e (by simp only []; omega) (by simp)).trans (congrFun (win6_at m c t) _)
      · intro e; exact (load_band _ _ _ l e ⟨1024 + d, by omega⟩ e (by simp only []; omega) (by simp)).trans (congrFun (win6_at m c t) _)
      · intro e; exact (load_band _ _ _ l e ⟨2048 + d, by omega⟩ e (by simp only []; omega) (by simp)).trans (congrFun (win6_at m c t) _)
      · intro e; exact (load_band _ _ _ e l e d (by simp) (by omega)).trans (congrFun (win7_at m c t) _)
      · intro e; exact (load_band _ _ _ e l e d (by simp) (by omega)).trans (congrFun (win9_at m c t) _)
      · intro e; exact (load_band _ _ _ e l e d (by simp) (by omega)).trans (congrFun (win8_at m c t) _)
    · have hp : 0 + 1 * (p : ℕ) = (y 0 : ℕ) := hy0
      obtain ⟨l, rfl⟩ : ∃ l : Fin 256, y = ix2 p l :=
        ⟨y 1, by
          funext a; fin_cases a
          · exact Fin.ext (by simpa using hp.symm)
          · rfl⟩
      have hd : 0 + 1 * (d : ℕ) = (l : ℕ) := hy1
      dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
      refine (band0_at _ _ _ _ _ _ _ _ _ _ _ p l).trans (band_eq m c ?_ ?_ ?_ ?_ ?_ ?_ ?_ ?_ ?_ ?_ ?_)
      · intro e; exact (load_band _ _ _ p e p e (by simp) (by simp)).trans (win0_at m c t p e)
      · intro e; exact (load_band _ _ _ 0 e 0 e (by simp) (by simp)).trans (congrFun (win4_at m c t) _)
      · intro e; exact (load_band _ _ _ p e p e (by simp) (by simp)).trans (win1_at m c t p e)
      · intro e; exact (load_band _ _ _ p e p e (by simp) (by simp)).trans (win3_at m c t p e)
      · intro e; exact (load_band _ _ _ p e p e (by simp) (by simp)).trans (win2_at m c t p e)
      · intro e; exact (load_band _ _ _ l e ⟨0 + d, by omega⟩ e (by simp only []; omega) (by simp)).trans (congrFun (win6_at m c t) _)
      · intro e; exact (load_band _ _ _ l e ⟨1024 + d, by omega⟩ e (by simp only []; omega) (by simp)).trans (congrFun (win6_at m c t) _)
      · intro e; exact (load_band _ _ _ l e ⟨2048 + d, by omega⟩ e (by simp only []; omega) (by simp)).trans (congrFun (win6_at m c t) _)
      · intro e; exact (load_band _ _ _ e l e d (by simp) (by omega)).trans (congrFun (win7_at m c t) _)
      · intro e; exact (load_band _ _ _ e l e d (by simp) (by omega)).trans (congrFun (win9_at m c t) _)
      · intro e; exact (load_band _ _ _ e l e d (by simp) (by omega)).trans (congrFun (win8_at m c t) _)
  · funext d e; exact (load_band _ _ _ d e d e (by simp) (by simp)).trans (congrFun (win10_at m c t) _)

/-- The array of tokens. -/
theorem final11 : (dats m 0 c).arrAt 11 cfg0.N = fun i : S16384x1024.Idx => row m c (i 0) (i 1) := by
  refine Pipeline.Dat.arrAt_eq_of_covers (dats m 0 c) 11 _ (by decide +kernel) fun t hf y => ?_
  blk_simp
  rw [after0_11]
  have key : ∀ y : S512x1024.Idx, (outsAt0 m c t : FVec Ideal S512x1024 .f32) y = row m c (tok t (y 0)) (y 1) := by
    intro y
    idx_vars y
    exact out_at m c t y0 y1
  refine (key y).trans ?_
  congr 1
  all_goals
    ext
    first | (blk_simp [idx t]; done) | (blk_simp [idx t]; unfold tok; dsimp only; omega)

end Cert.MergeAll.Ker

end
-- ==== Proof.MergeAll.Reference.lean ====
/- The reference of the prompt's merge, its result read at an index. -/
module

public import proofs.«01_k».proof.Proof.Gen.Reference5Ideal.Run
public import proofs.«01_k».proof.Proof.Merge.Spec
public import Idealize.ShloMosaic.Lib.Pointwise

@[expose] public section

set_option maxRecDepth 16384

noncomputable section

namespace Cert.MergeAll.Ref

open Idealize.ShloMosaic Idealize.ShloMosaic.TcCoe Cert.Reference5Ideal Cert.Reference5Ideal.Gen Cert.Ffn Cert.Merge

variable (m : (ℓ : Loc nD τ sig) → Buf (Elt Ideal) ℓ) (c : Dev nD)

/-- The gates' weights for entry `d`, `o` the first row of the branch. -/
def gate (o : ℕ) (d e : Fin 1024) (h : o + 1024 ≤ 3072 := by decide) : EReal :=
  (m ((c.tc : Thread nD τ).loc main_arg6) : FVec Ideal S3072x1024 .bf16) (ix2 ⟨o + d, by omega⟩ e)

/-- Token `r`'s merged entry `d`. -/
def merged (r : Fin 16384) (d : Fin 1024) : EReal :=
  entry
    (norm (fun e => (m ((c.tc : Thread nD τ).loc main_arg0) : FVec Ideal S16384x1024 .f32) (ix2 r e))
      (fun e => (m ((c.tc : Thread nD τ).loc main_arg4) : FVec Ideal S1x1024 .f32) (ix2 0 e)))
    (gate m c 0 d) (gate m c 1024 d) (gate m c 2048 d)
    (fun f => (m ((c.tc : Thread nD τ).loc main_arg1) : FVec Ideal S16384x512 .bf16) (ix2 r f))
    (fun f => (m ((c.tc : Thread nD τ).loc main_arg7) : FVec Ideal S512x1024 .bf16) (ix2 f d))
    (fun f => (m ((c.tc : Thread nD τ).loc main_arg2) : FVec Ideal S16384x1024 .bf16) (ix2 r f))
    (fun f => (m ((c.tc : Thread nD τ).loc main_arg8) : FVec Ideal S1024x1024 .bf16) (ix2 f d))
    (fun f => (m ((c.tc : Thread nD τ).loc main_arg3) : FVec Ideal S16384x512 .bf16) (ix2 r f))
    (fun f => (m ((c.tc : Thread nD τ).loc main_arg9) : FVec Ideal S512x1024 .bf16) (ix2 f d))

/-- The reference's result for token `r`. -/
theorem ref_at (r : Fin 16384) (e : Fin 1024) :
    (Value.res_main_v56 m c : FVec Ideal S16384x1024 .f32) (ix2 r e)
      = Merge.token (fun e => (m ((c.tc : Thread nD τ).loc main_arg0) : FVec Ideal S16384x1024 .f32) (ix2 r e))
          (fun e => (m ((c.tc : Thread nD τ).loc main_arg5) : FVec Ideal S1x1024 .f32) (ix2 0 e))
          (merged m c r)
          (fun d e => (m ((c.tc : Thread nD τ).loc main_arg10) : FVec Ideal S1024x1024 .bf16) (ix2 d e)) e := by
  unfold Merge.token merged entry branch gate Inproj.logistic Ffn.norm scale
  pointwise [Value.res_main_v56]

end Cert.MergeAll.Ref

end
-- ==== Proof.FfnSample.Kernel.lean ====
/- The kernel's arithmetic for the sample's one block of tokens, read at an index. -/
module

public import proofs.«01_k».proof.Proof.Gen.Kernel6Ideal.Skeleton
public import proofs.«01_k».proof.Proof.Ffn.Spec
public import Idealize.ShloMosaic.Lib.Pointwise

@[expose] public section

set_option maxRecDepth 16384

noncomputable section

namespace Cert.FfnSample

open Idealize.ShloMosaic Idealize.ShloMosaic.TcCoe Cert.Kernel6Ideal Cert.Kernel6Ideal.Gen Cert.Ffn

/-- What the body stores for token `r` of its block. -/
theorem pay_at (x : FVec Ideal S128x1024 .f32) (g g' : FVec Ideal S1x1024 .f32) (w : FVec Ideal S1024x4096 .bf16) (w' : FVec Ideal S4096x1024 .bf16)
    (r : Fin 128) (e : Fin 1024) :
    k0_pay1 (F := Ideal) x g w w' g' (ix2 r e)
      = token (fun e => x (ix2 r e)) (fun e => g (ix2 0 e)) (fun e => g' (ix2 0 e)) (fun e f => w (ix2 e f)) (fun f e => w' (ix2 f e)) e := by
  unfold Ffn.token Ffn.norm Ffn.hidden scale
  pointwise [k0_pay1]

end Cert.FfnSample

end
-- ==== Proof.FfnSample.Final.lean ====
/- The sample's array of tokens after its call of the feed-forward part. -/
module

public import proofs.«01_k».proof.Proof.Gen.Kernel6Ideal.Value
public import proofs.«01_k».proof.Proof.FfnSample.Kernel
public import Idealize.ShloMosaic.Lib.Pipeline.ValueKit

@[expose] public section

set_option maxRecDepth 16384

noncomputable section

namespace Cert.FfnSample.Ker

open Idealize.ShloMosaic Idealize.ShloMosaic.TcCoe Cert.Kernel6Ideal Cert.Kernel6Ideal.Gen Cert.Ffn

/-- The grid's one point has every array's first block. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

variable (m : (ℓ : Loc nD τ sig) → Buf (Elt Ideal) ℓ) (c : Dev nD)

/-- The feed-forward part of the sample's token `r`, of the kernel's arguments. -/
def row (r : Fin 128) (e : Fin 1024) : EReal :=
  token (fun e => (m ((c : Thread nD τ).loc main_arg0) : FVec Ideal S128x1024 .f32) (ix2 r e))
    (fun e => (m ((c : Thread nD τ).loc main_arg1) : FVec Ideal S1x1024 .f32) (ix2 0 e))
    (fun e => (m ((c : Thread nD τ).loc main_arg2) : FVec Ideal S1x1024 .f32) (ix2 0 e))
    (fun e f => (m ((c : Thread nD τ).loc main_arg3) : FVec Ideal S1024x4096 .bf16) (ix2 e f))
    (fun f e => (m ((c : Thread nD τ).loc main_arg4) : FVec Ideal S4096x1024 .bf16) (ix2 f e)) e

theorem win0_at (t : Fin cfg0.N) (p : Fin 128) (e : Fin 1024) :
    (iblk m c 0 t : FVec Ideal S128x1024 .f32) (ix2 p e) = (m ((c : Thread nD τ).loc main_arg0) : FVec Ideal S128x1024 .f32) (ix2 p e) := by
  blk_point [iblk, V, idx t]

theorem win1_at (t : Fin cfg0.N) (e : Fin 1024) :
    (iblk m c 1 t : FVec Ideal S1x1024 .f32) (ix2 0 e) = (m ((c : Thread nD τ).loc main_arg1) : FVec Ideal S1x1024 .f32) (ix2 0 e) := by
  blk_point [iblk, V, idx t]

theorem win2_at (t : Fin cfg0.N) (e : Fin 1024) :
    (iblk m c 2 t : FVec Ideal S1x1024 .f32) (ix2 0 e) = (m ((c : Thread nD τ).loc main_arg2) : FVec Ideal S1x1024 .f32) (ix2 0 e) := by
  blk_point [iblk, V, idx t]

theorem win3_at (t : Fin cfg0.N) (e : Fin 1024) (f : Fin 4096) :
    (iblk m c 3 t : FVec Ideal S1024x4096 .bf16) (ix2 e f) = (m ((c : Thread nD τ).loc main_arg3) : FVec Ideal S1024x4096 .bf16) (ix2 e f) := by
  blk_point [iblk, V, idx t]

theorem win4_at (t : Fin cfg0.N) (f : Fin 4096) (e : Fin 1024) :
    (iblk m c 4 t : FVec Ideal S4096x1024 .bf16) (ix2 f e) = (m ((c : Thread nD τ).loc main_arg4) : FVec Ideal S4096x1024 .bf16) (ix2 f e) := by
  blk_point [iblk, V, idx t]

/-- What a point leaves in its block of tokens. -/
theorem out_at (t : Fin cfg0.N) (p : Fin 128) (e : Fin 1024) :
    out0_5 (F := Ideal) (iblk m c 0 t) (iblk m c 1 t) (iblk m c 2 t) (iblk m c 3 t) (iblk m c 4 t) (ix2 p e)
      = row m c p e := by
  unfold out0_5
  canon_tiles x hh
  rw [show x = ix2 p e from by idx_vars x; congr 1 <;> ext <;> simpa using by omega]
  refine (pay_at _ _ _ _ _ p e).trans ?_
  unfold row
  congr 1
  · funext e; exact (congrFun (View.ld_unit_lit _ _ (by decide)) _).trans (win0_at m c t p e)
  · funext e; exact (congrFun (View.ld_unit_lit _ _ (by decide)) _).trans (win1_at m c t e)
  · funext e; exact (congrFun (View.ld_unit_lit _ _ (by decide)) _).trans (win2_at m c t e)
  · funext e f; exact (congrFun (View.ld_unit_lit _ _ (by decide)) _).trans (win3_at m c t e f)
  · funext f e; exact (congrFun (View.ld_unit_lit _ _ (by decide)) _).trans (win4_at m c t f e)

/-- The array of tokens. -/
theorem final5 : (dats m 0 c).arrAt 5 cfg0.N = fun i : S128x1024.Idx => row m c (i 0) (i 1) := by
  refine Pipeline.Dat.arrAt_eq_of_covers (dats m 0 c) 5 _ (by decide +kernel) fun t hf y => ?_
  blk_simp
  rw [after0_5]
  have key : ∀ y : S128x1024.Idx, out0_5 (F := Ideal) (iblk m c 0 t) (iblk m c 1 t) (iblk m c 2 t) (iblk m c 3 t) (iblk m c 4 t) y
      = row m c (y 0) (y 1) := by
    intro y
    idx_vars y
    exact out_at m c t y0 y1
  refine (key y).trans ?_
  congr 1
  all_goals
    ext
    first | (blk_simp [idx t]; done) | (blk_simp [idx t]; omega)

end Cert.FfnSample.Ker

end
-- ==== Proof.FfnSample.Reference.lean ====
/- The result of the sample's feed-forward reference, read at an index. -/
module

public import proofs.«01_k».proof.Proof.Gen.Reference6Ideal.Run
public import proofs.«01_k».proof.Proof.Ffn.Spec
public import Idealize.ShloMosaic.Lib.Pointwise

@[expose] public section

set_option maxRecDepth 16384

noncomputable section

namespace Cert.FfnSample

open Idealize.ShloMosaic Idealize.ShloMosaic.TcCoe Cert.Reference6Ideal Cert.Reference6Ideal.Gen Cert.Ffn

variable (m : (ℓ : Loc nD τ sig) → Buf (Elt Ideal) ℓ) (c : Dev nD)

/-- The reference's result for token `r`. -/
theorem ref_at (r : Fin 128) (e : Fin 1024) :
    (Value.res_out0 m c : FVec Ideal S128x1024 .f32) (ix2 r e)
      = token (fun e => (m ((c.tc : Thread nD τ).loc main_arg0) : FVec Ideal S128x1024 .f32) (ix2 r e))
          (fun e => (m ((c.tc : Thread nD τ).loc main_arg1) : FVec Ideal S1x1024 .f32) (ix2 0 e))
          (fun e => (m ((c.tc : Thread nD τ).loc main_arg2) : FVec Ideal S1x1024 .f32) (ix2 0 e))
          (fun e f => (m ((c.tc : Thread nD τ).loc main_arg3) : FVec Ideal S1024x4096 .bf16) (ix2 e f))
          (fun f e => (m ((c.tc : Thread nD τ).loc main_arg4) : FVec Ideal S4096x1024 .bf16) (ix2 f e)) e := by
  unfold Ffn.token Ffn.norm Ffn.hidden scale
  pointwise [Value.res_out0, Value.res_main_v31]

end Cert.FfnSample

end
-- ==== Proof.lean ====
/- The claim, assembled: the frames and the named constant from the generated runs, the values from the two sides' results. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Mlstm.RefRun
public import proofs.«01_k».proof.Proof.Gen.Pre_floor_positive
public import proofs.«01_k».proof.Proof.Mlstm.KerSeq
public import proofs.«01_k».proof.Proof.Mlstm.RefFinal
public import proofs.«01_k».proof.Proof.Mlstm.Pre
public import proofs.«01_k».proof.Proof.Gen.Kernel2.Frame
public import proofs.«01_k».proof.Proof.Ffn.Final
public import proofs.«01_k».proof.Proof.Ffn.Reference
public import proofs.«01_k».proof.Proof.Gen.Kernel3.Frame
public import proofs.«01_k».proof.Proof.Merge.Final
public import proofs.«01_k».proof.Proof.Merge.Reference
public import proofs.«01_k».proof.Proof.Gen.Kernel4.Frame
public import proofs.«01_k».proof.Proof.Inproj.Final
public import proofs.«01_k».proof.Proof.Inproj.Reference
public import proofs.«01_k».proof.Proof.Gen.Kernel5.Frame
public import proofs.«01_k».proof.Proof.MergeAll.Final
public import proofs.«01_k».proof.Proof.MergeAll.Reference
public import proofs.«01_k».proof.Proof.Gen.Kernel6.Frame
public import proofs.«01_k».proof.Proof.FfnSample.Final
public import proofs.«01_k».proof.Proof.FfnSample.Reference
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem frame_ri : Cert.quiescent_ReferenceIdeal := fun m g _ =>
  (θ_run ReferenceIdeal.defs _ _).mono (fun r h => ⟨fun c => (h c).2.2.2, sem_eq_zero_of_no_sems (by decide) r.2⟩) (Mlstm.Ref.run_states m g)

theorem preserves : Cert.preserves_Kernel_KernelIdeal :=
  IdealRules.named_const.statement Cert.KernelIdeal.κ "mask" .f32 0xF149F2CA#32 ⊥ rfl

/-- From arguments that agree the two programs' results are the same functions of the recurrence's inputs. -/
theorem algebraic : Cert.algebraic_KernelIdeal_ReferenceIdeal_pre_floor_positive := by
  intro m g m' g' hpre hagree
  refine ⟨_, _, _, KernelIdeal.Value.run_blocks (F := Ideal) m g, ?_⟩
  refine (θ_run ReferenceIdeal.defs _ _).mono (fun _ h c => ?_) (Mlstm.Ref.run_states m' g')
  obtain ⟨a0, a1, a2, a3, a4, a5⟩ := hagree c
  have hin : Mlstm.Ref.inputs (m' ((c.tc : Thread ReferenceIdeal.nD ReferenceIdeal.τ).loc ReferenceIdeal.main_arg0))
      (m' ((c.tc : Thread ReferenceIdeal.nD ReferenceIdeal.τ).loc ReferenceIdeal.main_arg1))
      (m' ((c.tc : Thread ReferenceIdeal.nD ReferenceIdeal.τ).loc ReferenceIdeal.main_arg2))
      (m' ((c.tc : Thread ReferenceIdeal.nD ReferenceIdeal.τ).loc ReferenceIdeal.main_arg3))
      (m' ((c.tc : Thread ReferenceIdeal.nD ReferenceIdeal.τ).loc ReferenceIdeal.main_arg4))
      (m' ((c.tc : Thread ReferenceIdeal.nD ReferenceIdeal.τ).loc ReferenceIdeal.main_arg5)) = Mlstm.Ker.inputs m c := by
    rw [a0, a1, a2, a3, a4, a5]
    rfl
  have hpos : ∀ (b : Fin 8) (r : Fin 2048) (h : Fin 4), 0 < (Mlstm.Ker.inputs m c).W b r ⟨8 + (h : ℕ), by omega⟩ :=
    Mlstm.positive_of_fn _ _ _ _ _ _ (hpre c)
  obtain ⟨hy, hC, hn, hargs⟩ := h c
  refine ⟨hy.trans ?_, hC.trans ?_, hn.trans ?_, hargs⟩
  · rw [Mlstm.Ref.final_y (it := Mlstm.Ref.states m' c) rfl (fun _ => rfl), hin]
    exact (Mlstm.Ker.final6 m c hpos).symm
  · rw [Mlstm.Ref.final_C (it := Mlstm.Ref.states m' c) rfl (fun _ => rfl), hin]
    exact (Mlstm.Ker.final7 m c).symm
  · rw [Mlstm.Ref.final_n (it := Mlstm.Ref.states m' c) rfl (fun _ => rfl), hin]
    exact (Mlstm.Ker.final8 m c).symm

/-- The reference of the feed-forward part ends, with its arguments as they were. -/
theorem frame_ri2 : Cert.quiescent_Reference2Ideal := fun m g _ =>
  (θ_run Reference2Ideal.defs _ _).mono (fun r h => ⟨fun c => (h c).2, sem_eq_zero_of_no_sems (by decide) r.2⟩)
    (Reference2Ideal.Value.run m g)

/-- From arguments that agree the two programs make the same of every token. -/
theorem algebraic2 : Cert.algebraic_Kernel2Ideal_Reference2Ideal := by
  intro m g m' g' _ hagree
  refine ⟨_, (θ_run Kernel2Ideal.defs _ _).mono (fun _ h c => ⟨(h c).1, (h c).2.2⟩) (Kernel2Ideal.Value.run_blocks (F := Ideal) m g), ?_⟩
  refine (θ_run Reference2Ideal.defs _ _).mono (fun _ h c => ⟨(h c).1.trans ?_, (h c).2⟩) (Reference2Ideal.Value.run m' g')
  obtain ⟨a0, a1, a2, a3, a4, _⟩ := hagree c
  refine Eq.trans ?_ (Ffn.Ker.final8 m c).symm
  funext i
  idx_vars i
  refine (Ffn.ref_at m' c i0 i1).trans ?_
  rw [a0, a1, a2, a3, a4]
  rfl

/-- The merge's reference runs to its end. -/
theorem frame_ri3 : Cert.quiescent_Reference3Ideal := fun m g _ =>
  (θ_run Reference3Ideal.defs _ _).mono (fun r h => ⟨fun c => (h c).2, sem_eq_zero_of_no_sems (by decide) r.2⟩)
    (Reference3Ideal.Value.run m g)

/-- From arguments that agree the tokens after the merge agree. -/
theorem algebraic3 : Cert.algebraic_Kernel3Ideal_Reference3Ideal := by
  intro m g m' g' _ hagree
  refine ⟨_, Kernel3Ideal.Value.run_blocks (F := Ideal) m g, ?_⟩
  refine (θ_run Reference3Ideal.defs _ _).mono (fun _ h c => ⟨(h c).1.trans ?_, (h c).2⟩) (Reference3Ideal.Value.run m' g')
  obtain ⟨a0, a1, a2, a3, a4, a5, a6, a7, a8, a9, a10⟩ := hagree c
  refine Eq.trans ?_ (Merge.Ker.final11 m c).symm
  have hgate : ∀ o h, (fun d e => Merge.Ref.gate m' c o d e h) = fun d e => Merge.Ker.gate m c o d e h := by
    intro o h; funext d e; unfold Merge.Ref.gate Merge.Ker.gate; rw [a6]
  have hmerged : Merge.Ref.merged m' c = Merge.Ker.merged m c := by
    funext r d
    unfold Merge.Ref.merged Merge.Ker.merged
    rw [a0, a1, a2, a3, a4, a7, a8, a9]
    have h0 := congrFun (hgate 0 (by decide)) d
    have h1 := congrFun (hgate 1024 (by decide)) d
    have h2 := congrFun (hgate 2048 (by decide)) d
    change Merge.entry _ (fun e => Merge.Ref.gate m' c 0 d e) (fun e => Merge.Ref.gate m' c 1024 d e) (fun e => Merge.Ref.gate m' c 2048 d e) _ _ _ _ _ _ = _
    rw [h0, h1, h2]
  funext i; idx_vars i
  refine (Merge.Ref.ref_at m' c i0 i1).trans ?_
  rw [hmerged, a0, a5, a10]; rfl

/-- The projections' reference runs to its end. -/
theorem frame_ri4 : Cert.quiescent_Reference4Ideal := fun m g _ =>
  (θ_run Reference4Ideal.defs _ _).mono (fun r h => ⟨fun c => (h c).2.2.2.2.2.2.2.2, sem_eq_zero_of_no_sems (by decide) r.2⟩)
    (Reference4Ideal.Value.run m g)

set_option maxHeartbeats 1000000 in
/-- From arguments that agree the two programs' eight projections agree. -/
theorem algebraic4 : Cert.algebraic_Kernel4Ideal_Reference4Ideal := by
  intro m g m' g' _ hagree
  refine ⟨_, _, _, _, _, _, _, _, (θ_run Kernel4Ideal.defs _ _).mono (fun _ h c => ⟨(h c).1, (h c).2.1, (h c).2.2.1, (h c).2.2.2.1, (h c).2.2.2.2.1,
    (h c).2.2.2.2.2.1, (h c).2.2.2.2.2.2.1, (h c).2.2.2.2.2.2.2.1, (h c).2.2.2.2.2.2.2.2.2.2.2.2.2⟩)
    (Kernel4Ideal.Value.run_blocks (F := Ideal) m g), ?_⟩
  refine (θ_run Reference4Ideal.defs _ _).mono (fun _ h c => ?_) (Inproj.Ref.run m' g')
  obtain ⟨a0, a1, a2, a3, a4, _⟩ := hagree c
  have hmain : Inproj.Ref.main m' c = Inproj.Ker.main m c := by
    funext r j; unfold Inproj.Ref.main Inproj.Ker.main; rw [a0, a1, a2]
  have hxq : Inproj.Ref.xq m' c = Inproj.Ker.xq m c := by
    funext r j; unfold Inproj.Ref.xq Inproj.Ker.xq; rw [a0, a1, a3]
  have hgif : Inproj.Ref.gif m' c = Inproj.Ker.gif m c := by
    funext r j; unfold Inproj.Ref.gif Inproj.Ker.gif; rw [a0, a1, a4]
  have h := h c
  rw [hmain, hxq, hgif] at h
  exact ⟨h.1.trans (Inproj.Ker.final10 m c).symm, h.2.1.trans (Inproj.Ker.final11 m c).symm, h.2.2.1.trans (Inproj.Ker.final12 m c).symm,
    h.2.2.2.1.trans (Inproj.Ker.final13 m c).symm, h.2.2.2.2.1.trans (Inproj.Ker.final14 m c).symm,
    h.2.2.2.2.2.1.trans (Inproj.Ker.final15 m c).symm, h.2.2.2.2.2.2.1.trans (Inproj.Ker.final16 m c).symm,
    h.2.2.2.2.2.2.2.1.trans (Inproj.Ker.final17 m c).symm, h.2.2.2.2.2.2.2.2⟩

/-- The reference of the prompt's merge runs to its end. -/
theorem frame_ri5 : Cert.quiescent_Reference5Ideal := fun m g _ =>
  (θ_run Reference5Ideal.defs _ _).mono (fun r h => ⟨fun c => (h c).2, sem_eq_zero_of_no_sems (by decide) r.2⟩)
    (Reference5Ideal.Value.run m g)

/-- From arguments that agree the prompt's tokens after the merge agree. -/
theorem algebraic5 : Cert.algebraic_Kernel5Ideal_Reference5Ideal := by
  intro m g m' g' _ hagree
  refine ⟨_, Kernel5Ideal.Value.run_blocks (F := Ideal) m g, ?_⟩
  refine (θ_run Reference5Ideal.defs _ _).mono (fun _ h c => ⟨(h c).1.trans ?_, (h c).2⟩) (Reference5Ideal.Value.run m' g')
  obtain ⟨a0, a1, a2, a3, a4, a5, a6, a7, a8, a9, a10⟩ := hagree c
  refine Eq.trans ?_ (MergeAll.Ker.final11 m c).symm
  have hgate : ∀ o h, (fun d e => MergeAll.Ref.gate m' c o d e h) = fun d e => MergeAll.Ker.gate m c o d e h := by
    intro o h; funext d e; unfold MergeAll.Ref.gate MergeAll.Ker.gate; rw [a6]
  have hmerged : MergeAll.Ref.merged m' c = MergeAll.Ker.merged m c := by
    funext r d
    unfold MergeAll.Ref.merged MergeAll.Ker.merged
    rw [a0, a1, a2, a3, a4, a7, a8, a9]
    have h0 := congrFun (hgate 0 (by decide)) d
    have h1 := congrFun (hgate 1024 (by decide)) d
    have h2 := congrFun (hgate 2048 (by decide)) d
    change Merge.entry _ (fun e => MergeAll.Ref.gate m' c 0 d e) (fun e => MergeAll.Ref.gate m' c 1024 d e) (fun e => MergeAll.Ref.gate m' c 2048 d e) _ _ _ _ _ _ = _
    rw [h0, h1, h2]
  funext i; idx_vars i
  refine (MergeAll.Ref.ref_at m' c i0 i1).trans ?_
  rw [hmerged, a0, a5, a10]; rfl

/-- The reference of the sample's feed-forward part ends, with its arguments as they were. -/
theorem frame_ri6 : Cert.quiescent_Reference6Ideal := fun m g _ =>
  (θ_run Reference6Ideal.defs _ _).mono (fun r h => ⟨fun c => (h c).2, sem_eq_zero_of_no_sems (by decide) r.2⟩)
    (Reference6Ideal.Value.run m g)

/-- From arguments that agree the two programs make the same of each of the sample's tokens. -/
theorem algebraic6 : Cert.algebraic_Kernel6Ideal_Reference6Ideal := by
  intro m g m' g' _ hagree
  refine ⟨_, (θ_run Kernel6Ideal.defs _ _).mono (fun _ h c => ⟨(h c).1, (h c).2⟩) (Kernel6Ideal.Value.run_blocks (F := Ideal) m g), ?_⟩
  refine (θ_run Reference6Ideal.defs _ _).mono (fun _ h c => ⟨(h c).1.trans ?_, (h c).2⟩) (Reference6Ideal.Value.run m' g')
  obtain ⟨a0, a1, a2, a3, a4⟩ := hagree c
  refine Eq.trans ?_ (FfnSample.Ker.final5 m c).symm
  funext i
  idx_vars i
  refine (FfnSample.ref_at m' c i0 i1).trans ?_
  rw [a0, a1, a2, a3, a4]
  rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_floor_positive.Gen.facts,
    fun m g _ => Cert.Kernel.Gen.frame m g, fun m g _ => Cert.KernelIdeal.Gen.frame m g, fun m g _ => Cert.KernelIdeal.Gen.frame m g,
    frame_ri, fun m g _ => frame_ri m g trivial, fun m g _ => Cert.Kernel2.Gen.frame m g, fun m g _ => Cert.Kernel2Ideal.Gen.frame m g,
    frame_ri2, fun m g _ => Cert.Kernel3.Gen.frame m g, fun m g _ => Cert.Kernel3Ideal.Gen.frame m g, frame_ri3,
    fun m g _ => Cert.Kernel4.Gen.frame m g, fun m g _ => Cert.Kernel4Ideal.Gen.frame m g, frame_ri4,
    fun m g _ => Cert.Kernel5.Gen.frame m g, fun m g _ => Cert.Kernel5Ideal.Gen.frame m g, frame_ri5,
    fun m g _ => Cert.Kernel6.Gen.frame m g, fun m g _ => Cert.Kernel6Ideal.Gen.frame m g, frame_ri6, preserves, algebraic, trivial,
    algebraic2, trivial, algebraic3, trivial, algebraic4, trivial, algebraic5, trivial, algebraic6⟩

end Cert.Proof

end
